-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite [hPre_finite : Cert.Pre_finite.Facts] (m : (ℓ : Loc Cert.MergeIdeal.nD Cert.MergeIdeal.τ Cert.MergeIdeal.sig) → Buf (Elt Ideal) ℓ) : Prop :=
  ∀ c : Dev Cert.MergeIdeal.nD,
    (Cert.Pre_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite [hPre_finite : Cert.Pre_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeIdeal_pre_finite [hMergeIdeal : Cert.MergeIdeal.Facts] [hPre_finite : Cert.Pre_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_MergeRefIdeal_pre_finite [hMergeRefIdeal : Cert.MergeRefIdeal.Facts] [hPre_finite : Cert.Pre_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Attn_AttnIdeal : Prop :=
  IdealRules.named_const.Statement Cert.AttnIdeal.κ "q_scale" .f32 0x3E38AA3B#32 (((1 / 8) * (Real.log 2)⁻¹ : ℝ) : EReal)
  ∧ IdealRules.named_const.Statement Cert.AttnIdeal.κ "inv_ln2" .f32 0x3FB8AA3B#32 (((Real.log 2)⁻¹ : ℝ) : EReal)

def preserves_Merge_MergeIdeal : Prop :=
  True

def algebraic_MergeIdeal_MergeRefIdeal_pre_finite [hMergeIdeal : Cert.MergeIdeal.Facts] [hMergeRefIdeal : Cert.MergeRefIdeal.Facts] [hPre_finite : Cert.Pre_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v82) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def Claim : Prop :=
  ∃ (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hMerge : Cert.Merge.Facts) (hMergeIdeal : Cert.MergeIdeal.Facts) (hMergeRefIdeal : Cert.MergeRefIdeal.Facts) (hPre_finite : Cert.Pre_finite.Facts),
    quiescent_Ffn (hFfn := hFfn)
    ∧ quiescent_FfnIdeal (hFfnIdeal := hFfnIdeal)
    ∧ quiescent_FfnRefIdeal (hFfnRefIdeal := hFfnRefIdeal)
    ∧ quiescent_Attn (hAttn := hAttn)
    ∧ quiescent_AttnIdeal (hAttnIdeal := hAttnIdeal)
    ∧ quiescent_AttnRefIdeal (hAttnRefIdeal := hAttnRefIdeal)
    ∧ quiescent_Merge (hMerge := hMerge)
    ∧ quiescent_MergeIdeal (hMergeIdeal := hMergeIdeal)
    ∧ quiescent_MergeIdeal_pre_finite (hMergeIdeal := hMergeIdeal) (hPre_finite := hPre_finite)
    ∧ quiescent_MergeRefIdeal (hMergeRefIdeal := hMergeRefIdeal)
    ∧ quiescent_MergeRefIdeal_pre_finite (hMergeRefIdeal := hMergeRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Attn_AttnIdeal
    ∧ preserves_Merge_MergeIdeal
    ∧ algebraic_MergeIdeal_MergeRefIdeal_pre_finite (hMergeIdeal := hMergeIdeal) (hMergeRefIdeal := hMergeRefIdeal) (hPre_finite := hPre_finite)
-- ==== Pre_finite.lean ====
abbrev S16384x1024 : Shape := ⟨2, ![16384, 1024]⟩
abbrev S2x1024 : Shape := ⟨2, ![2, 1024]⟩
abbrev S16384x512 : Shape := ⟨2, ![16384, 512]⟩
abbrev S16384x128 : Shape := ⟨2, ![16384, 128]⟩
abbrev S2x1024x10000 : Shape := ⟨3, ![2, 1024, 10000]⟩
abbrev S2x3x512x1024 : Shape := ⟨4, ![2, 3, 512, 1024]⟩
abbrev S2x1024x1024 : Shape := ⟨3, ![2, 1024, 1024]⟩
abbrev S16384x8 : Shape := ⟨2, ![16384, 8]⟩
abbrev S_ : Shape := ⟨0, ![]⟩

class Facts : Prop where
  slices_S16384x128_S16384x8_0_0 : S16384x128.Slices ![0, 0] S16384x8
  bcast_S_S16384x8 : S_.BroadcastsInDim S16384x8 (![] : Fin 0 → Fin S16384x8.rank)

variable [Facts]

def fn {F : FTy → Type} [FloatOps F] (main_arg0 : FVec F S16384x1024 .f32) (main_arg1 : FVec F S2x1024 .f32) (main_arg2 : FVec F S16384x512 .bf16) (main_arg3 : FVec F S16384x512 .bf16) (main_arg4 : FVec F S16384x512 .bf16) (main_arg5 : FVec F S16384x128 .f32) (main_arg6 : FVec F S16384x128 .f32) (main_arg7 : FVec F S16384x128 .f32) (main_arg8 : FVec F S16384x512 .bf16) (main_arg9 : FVec F S16384x512 .bf16) (main_arg10 : FVec F S2x1024x10000 .f32) (main_arg11 : FVec F S2x3x512x1024 .f32) (main_arg12 : FVec F S2x1024x1024 .f32) : IVec S16384x8 1 :=
  let main_v0 : FVec F S16384x8 .f32 := (extractStridedSlice S16384x8 ![0, 0] · slices_S16384x128_S16384x8_0_0) main_arg5
  let main_v1 : FVec F S16384x8 .f32 := Host.absf main_v0
  let main_cst : FVec F S_ .f32 := constant S_ .f32 0x7F800000#32
  let main_v2 : FVec F S16384x8 .f32 := broadcastInDim S16384x8 ![] bcast_S_S16384x8 main_cst
  let main_v3 : IVec S16384x8 1 := cmpf .olt main_v1 main_v2
  let main_v4 : FVec F S16384x8 .f32 := (extractStridedSlice S16384x8 ![0, 0] · slices_S16384x128_S16384x8_0_0) main_arg6
  let main_v5 : FVec F S16384x8 .f32 := Host.absf main_v4
  let main_cst_0 : FVec F S_ .f32 := constant S_ .f32 0x7F800000#32
  let main_v6 : FVec F S16384x8 .f32 := broadcastInDim S16384x8 ![] bcast_S_S16384x8 main_cst_0
  let main_v7 : IVec S16384x8 1 := cmpf .olt main_v5 main_v6
  let main_v8 : IVec S16384x8 1 := andi main_v3 main_v7
  let main_v9 : FVec F S16384x8 .f32 := (extractStridedSlice S16384x8 ![0, 0] · slices_S16384x128_S16384x8_0_0) main_arg7
  let main_v10 : FVec F S16384x8 .f32 := Host.absf main_v9
  let main_cst_1 : FVec F S_ .f32 := constant S_ .f32 0x7F800000#32
  let main_v11 : FVec F S16384x8 .f32 := broadcastInDim S16384x8 ![] bcast_S_S16384x8 main_cst_1
  let main_v12 : IVec S16384x8 1 := cmpf .olt main_v10 main_v11
  let main_v13 : IVec S16384x8 1 := andi main_v8 main_v12
  main_v13
-- ==== Ffn.lean ====
abbrev S2x8192x1024 : Shape := ⟨3, ![2, 8192, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S16384x1024 : Shape := ⟨2, ![16384, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S2x1024x5632, .bf16⟩
  | .hbm, ⟨5, _⟩ => ⟨S2x2816x1024, .bf16⟩
  | .hbm, ⟨6, _⟩ => ⟨S16384x1024, .f32⟩
  | .hbm, ⟨7, _⟩ => ⟨S2x1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S2x8192x1024 : Shape := ⟨3, ![2, 8192, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1x1024x5632, .f32⟩
  | .hbm, ⟨23, _⟩ => ⟨S1024x5632, .f32⟩
  | .hbm, ⟨24, _⟩ => ⟨S1x2816x1024, .f32⟩
  | .hbm, ⟨25, _⟩ => ⟨S2816x1024, .f32⟩
  | .hbm, ⟨26, _⟩ => ⟨S2x8192x5632, .f32⟩
  | .hbm, ⟨27, _⟩ => ⟨S2x8192x2816, .f32⟩
  | .hbm, ⟨28, _⟩ => ⟨S2x8192x2816, .f32⟩
  | .hbm, ⟨29, _⟩ => ⟨S2x8192x2816, .f32⟩
  | .hbm, ⟨30, _⟩ => ⟨S2x8192x2816, .f32⟩
  | .hbm, ⟨31, _⟩ => ⟨S_, .f32⟩
  | .hbm, ⟨32, _⟩ => ⟨S2x8192x2816, .f32⟩
  | .hbm, ⟨33, _⟩ => ⟨S2x8192x2816, .f32⟩
  | .hbm, ⟨34, _⟩ => ⟨S_, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S2x8192x1024, .f32⟩
  | .hbm, ⟨40, _⟩ => ⟨S_, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Attn.lean ====
abbrev S2x1x8192x512 : Shape := ⟨4, ![2, 1, 8192, 512]⟩
abbrev S2x8192x512 : Shape := ⟨3, ![2, 8192, 512]⟩
abbrev S2x8192x128 : Shape := ⟨3, ![2, 8192, 128]⟩
abbrev S1x1x2048x512 : Shape := ⟨4, ![1, 1, 2048, 512]⟩
abbrev S1x1x128x512 : Shape := ⟨4, ![1, 1, 128, 512]⟩
abbrev S1x2048x512 : Shape := ⟨3, ![1, 2048, 512]⟩
abbrev S1x2048x128 : Shape := ⟨3, ![1, 2048, 128]⟩
abbrev S4x8x128 : Shape := ⟨3, ![4, 8, 128]⟩
abbrev S8x128 : Shape := ⟨2, ![8, 128]⟩
abbrev S8x256x256 : Shape := ⟨3, ![8, 256, 256]⟩
abbrev S8x8x256 : Shape := ⟨3, ![8, 8, 256]⟩
abbrev S1x128 : Shape := ⟨2, ![1, 128]⟩
abbrev S256x256 : Shape := ⟨2, ![256, 256]⟩
abbrev S8x256 : Shape := ⟨2, ![8, 256]⟩
abbrev S1x1x128x128 : Shape := ⟨4, ![1, 1, 128, 128]⟩
abbrev S128x128 : Shape := ⟨2, ![128, 128]⟩
abbrev S256x128 : Shape := ⟨2, ![256, 128]⟩
abbrev S1x256x256 : Shape := ⟨3, ![1, 256, 256]⟩
abbrev S256 : Shape := ⟨1, ![256]⟩
abbrev S1x256 : Shape := ⟨2, ![1, 256]⟩
abbrev S1x1x256 : Shape := ⟨3, ![1, 1, 256]⟩
abbrev S128x256 : Shape := ⟨2, ![128, 256]⟩
abbrev S64x128 : Shape := ⟨2, ![64, 128]⟩
abbrev S1x128x128 : Shape := ⟨3, ![1, 128, 128]⟩
abbrev S120x128 : Shape := ⟨2, ![120, 128]⟩

abbrev nBuf : Space → Nat
  | .hbm => 5
  | .vmem => 19
  | .smem => 0
  | _ => 0

abbrev bufTy : (tb : Table) → Fin (tcTables nBuf tb) → BufTy
  | .hbm, ⟨0, _⟩ => ⟨S2x1x8192x512, .bf16⟩
  | .hbm, ⟨1, _⟩ => ⟨S2x1x8192x512, .bf16⟩
  | .hbm, ⟨2, _⟩ => ⟨S2x1x8192x512, .bf16⟩
  | .hbm, ⟨3, _⟩ => ⟨S2x8192x512, .bf16⟩
  | .hbm, ⟨4, _⟩ => ⟨S2x8192x128, .f32⟩
  | .local _ .vmem, ⟨0, _⟩ => ⟨S1x1x2048x512, .bf16⟩
  | .local _ .vmem, ⟨1, _⟩ => ⟨S1x1x2048x512, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x128x512, .bf16⟩
  | .local _ .vmem, ⟨5, _⟩ => ⟨S1x1x128x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x128x512, .bf16⟩
  | .local _ .vmem, ⟨9, _⟩ => ⟨S1x1x128x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x128, .f32⟩
  | .local _ .vmem, ⟨13, _⟩ => ⟨S1x2048x128, .f32⟩
  | .local _ .vmem, ⟨14, _⟩ => ⟨S4x8x128, .f32⟩
  | .local _ .vmem, ⟨15, _⟩ => ⟨S8x128, .f32⟩
  | .local _ .vmem, ⟨16, _⟩ => ⟨S8x256x256, .f32⟩
  | .local _ .vmem, ⟨17, _⟩ => ⟨S8x256x256, .bf16⟩
  | .local _ .vmem, ⟨18, _⟩ => ⟨S8x8x256, .f32⟩
  | _, _ => ⟨S2x1x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c3_i32_1025 : BitVec 32 := 3#32
  let c5_i32_1026 : BitVec 32 := 5#32
  let v1531 : BitVec 32 := Scalar.addi c3_i32_1025 c5_i32_1026
  let c1_i32_1027 : BitVec 32 := 1#32
  ⟨c3_i32_1025, v1531, c1_i32_1027⟩
def k0_mult1 (k0_t1 : Fin k0_t1_loop.trips) : BitVec 32 :=
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let c0_i32_1510 : BitVec 32 := 0#32
  let v2378 : BitVec 32 := Scalar.addi v2377 c0_i32_1510
  let c16_i32 : BitVec 32 := 16#32
  let c0_i32_1511 : BitVec 32 := 0#32
  let v2379 : BitVec 1 := Scalar.cmpi .eq c16_i32 c0_i32_1511
  let c1_i32_1512 : BitVec 32 := 1#32
  let v2380 : BitVec 32 := Scalar.select v2379 c1_i32_1512 c16_i32
  let v2381 : BitVec 32 := Scalar.remsi v2378 v2380
  let c0_i32_1514 : BitVec 32 := 0#32
  let v2383 : BitVec 1 := Scalar.cmpi .slt v2381 c0_i32_1514
  let c0_i32_1515 : BitVec 32 := 0#32
  let v2384 : BitVec 1 := Scalar.cmpi .slt v2380 c0_i32_1515
  let v2385 : BitVec 1 := Scalar.xori v2383 v2384
  let c0_i32_1513 : BitVec 32 := 0#32
  let v2382 : BitVec 1 := Scalar.cmpi .ne v2381 c0_i32_1513
  let v2386 : BitVec 1 := Scalar.andi v2385 v2382
  let v2387 : BitVec 32 := Scalar.addi v2381 v2380
  let v2388 : BitVec 32 := Scalar.select v2386 v2387 v2381
  let c128_i32_1516 : BitVec 32 := 128#32
  let v2389 : BitVec 32 := Scalar.muli v2388 c128_i32_1516
  v2389
def k0_mult2 (k0_t1 : Fin k0_t1_loop.trips) : BitVec 32 :=
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let c0_i32_1510 : BitVec 32 := 0#32
  let v2378 : BitVec 32 := Scalar.addi v2377 c0_i32_1510
  let c16_i32_1526 : BitVec 32 := 16#32
  let c0_i32_1527 : BitVec 32 := 0#32
  let v2398 : BitVec 1 := Scalar.cmpi .eq c16_i32_1526 c0_i32_1527
  let c1_i32_1528 : BitVec 32 := 1#32
  let v2399 : BitVec 32 := Scalar.select v2398 c1_i32_1528 c16_i32_1526
  let v2400 : BitVec 32 := Scalar.remsi v2378 v2399
  let c0_i32_1530 : BitVec 32 := 0#32
  let v2402 : BitVec 1 := Scalar.cmpi .slt v2400 c0_i32_1530
  let c0_i32_1531 : BitVec 32 := 0#32
  let v2403 : BitVec 1 := Scalar.cmpi .slt v2399 c0_i32_1531
  let v2404 : BitVec 1 := Scalar.xori v2402 v2403
  let c0_i32_1529 : BitVec 32 := 0#32
  let v2401 : BitVec 1 := Scalar.cmpi .ne v2400 c0_i32_1529
  let v2405 : BitVec 1 := Scalar.andi v2404 v2401
  let v2406 : BitVec 32 := Scalar.addi v2400 v2399
  let v2407 : BitVec 32 := Scalar.select v2405 v2406 v2400
  let c128_i32_1532 : BitVec 32 := 128#32
  let v2408 : BitVec 32 := Scalar.muli v2407 c128_i32_1532
  v2408
def k0_mult3 (k0_t1 : Fin k0_t1_loop.trips) : BitVec 32 :=
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let c0_i32_1510 : BitVec 32 := 0#32
  let v2378 : BitVec 32 := Scalar.addi v2377 c0_i32_1510
  let c16_i32_1526 : BitVec 32 := 16#32
  let c0_i32_1527 : BitVec 32 := 0#32
  let v2398 : BitVec 1 := Scalar.cmpi .eq c16_i32_1526 c0_i32_1527
  let c1_i32_1528 : BitVec 32 := 1#32
  let v2399 : BitVec 32 := Scalar.select v2398 c1_i32_1528 c16_i32_1526
  let v2400 : BitVec 32 := Scalar.remsi v2378 v2399
  let c0_i32_1530 : BitVec 32 := 0#32
  let v2402 : BitVec 1 := Scalar.cmpi .slt v2400 c0_i32_1530
  let c0_i32_1531 : BitVec 32 := 0#32
  let v2403 : BitVec 1 := Scalar.cmpi .slt v2399 c0_i32_1531
  let v2404 : BitVec 1 := Scalar.xori v2402 v2403
  let c0_i32_1529 : BitVec 32 := 0#32
  let v2401 : BitVec 1 := Scalar.cmpi .ne v2400 c0_i32_1529
  let v2405 : BitVec 1 := Scalar.andi v2404 v2401
  let v2406 : BitVec 32 := Scalar.addi v2400 v2399
  let v2407 : BitVec 32 := Scalar.select v2405 v2406 v2400
  let c1_i32_1533 : BitVec 32 := 1#32
  let v2410 : BitVec 32 := Scalar.subi v2407 c1_i32_1533
  let c0_i32_1534 : BitVec 32 := 0#32
  let v2411 : BitVec 32 := Scalar.maxsi v2410 c0_i32_1534
  let c128_i32_1535 : BitVec 32 := 128#32
  let v2412 : BitVec 32 := Scalar.muli v2411 c128_i32_1535
  v2412
def k0_off1 (k0_t1 : Fin k0_t1_loop.trips) (c0_i32_1510 : BitVec 32) : Fin 4 → Nat :=
  let c0_1536 : Index := 0#32
  let c0_1537 : Index := 0#32
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let v2378 : BitVec 32 := Scalar.addi v2377 c0_i32_1510
  let c16_i32_1526 : BitVec 32 := 16#32
  let c0_i32_1527 : BitVec 32 := 0#32
  let v2398 : BitVec 1 := Scalar.cmpi .eq c16_i32_1526 c0_i32_1527
  let c1_i32_1528 : BitVec 32 := 1#32
  let v2399 : BitVec 32 := Scalar.select v2398 c1_i32_1528 c16_i32_1526
  let v2400 : BitVec 32 := Scalar.remsi v2378 v2399
  let c0_i32_1530 : BitVec 32 := 0#32
  let v2402 : BitVec 1 := Scalar.cmpi .slt v2400 c0_i32_1530
  let c0_i32_1531 : BitVec 32 := 0#32
  let v2403 : BitVec 1 := Scalar.cmpi .slt v2399 c0_i32_1531
  let v2404 : BitVec 1 := Scalar.xori v2402 v2403
  let c0_i32_1529 : BitVec 32 := 0#32
  let v2401 : BitVec 1 := Scalar.cmpi .ne v2400 c0_i32_1529
  let v2405 : BitVec 1 := Scalar.andi v2404 v2401
  let v2406 : BitVec 32 := Scalar.addi v2400 v2399
  let v2407 : BitVec 32 := Scalar.select v2405 v2406 v2400
  let c128_i32_1532 : BitVec 32 := 128#32
  let v2408 : BitVec 32 := Scalar.muli v2407 c128_i32_1532
  let v2409 : BitVec 32 := v2408
  let v2414 : Index := Scalar.indexCast v2409
  let c0_1538 : Index := 0#32
  ![0, 0, v2414.toNat, 0]
def k0_off2 (k0_t1 : Fin k0_t1_loop.trips) (c0_i32_1510 : BitVec 32) : Fin 4 → Nat :=
  let c0_1539 : Index := 0#32
  let c0_1540 : Index := 0#32
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let v2378 : BitVec 32 := Scalar.addi v2377 c0_i32_1510
  let c16_i32_1526 : BitVec 32 := 16#32
  let c0_i32_1527 : BitVec 32 := 0#32
  let v2398 : BitVec 1 := Scalar.cmpi .eq c16_i32_1526 c0_i32_1527
  let c1_i32_1528 : BitVec 32 := 1#32
  let v2399 : BitVec 32 := Scalar.select v2398 c1_i32_1528 c16_i32_1526
  let v2400 : BitVec 32 := Scalar.remsi v2378 v2399
  let c0_i32_1530 : BitVec 32 := 0#32
  let v2402 : BitVec 1 := Scalar.cmpi .slt v2400 c0_i32_1530
  let c0_i32_1531 : BitVec 32 := 0#32
  let v2403 : BitVec 1 := Scalar.cmpi .slt v2399 c0_i32_1531
  let v2404 : BitVec 1 := Scalar.xori v2402 v2403
  let c0_i32_1529 : BitVec 32 := 0#32
  let v2401 : BitVec 1 := Scalar.cmpi .ne v2400 c0_i32_1529
  let v2405 : BitVec 1 := Scalar.andi v2404 v2401
  let v2406 : BitVec 32 := Scalar.addi v2400 v2399
  let v2407 : BitVec 32 := Scalar.select v2405 v2406 v2400
  let c1_i32_1533 : BitVec 32 := 1#32
  let v2410 : BitVec 32 := Scalar.subi v2407 c1_i32_1533
  let c0_i32_1534 : BitVec 32 := 0#32
  let v2411 : BitVec 32 := Scalar.maxsi v2410 c0_i32_1534
  let c128_i32_1535 : BitVec 32 := 128#32
  let v2412 : BitVec 32 := Scalar.muli v2411 c128_i32_1535
  let v2413 : BitVec 32 := v2412
  let v2417 : Index := Scalar.indexCast v2413
  let c0_1541 : Index := 0#32
  ![0, 0, v2417.toNat, 0]
def k0_off3 (k0_t1 : Fin k0_t1_loop.trips) (c0_i32_1510 : BitVec 32) : Fin 3 → Nat :=
  let c0_1545 : Index := 0#32
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let v2378 : BitVec 32 := Scalar.addi v2377 c0_i32_1510
  let c16_i32 : BitVec 32 := 16#32
  let c0_i32_1511 : BitVec 32 := 0#32
  let v2379 : BitVec 1 := Scalar.cmpi .eq c16_i32 c0_i32_1511
  let c1_i32_1512 : BitVec 32 := 1#32
  let v2380 : BitVec 32 := Scalar.select v2379 c1_i32_1512 c16_i32
  let v2381 : BitVec 32 := Scalar.remsi v2378 v2380
  let c0_i32_1514 : BitVec 32 := 0#32
  let v2383 : BitVec 1 := Scalar.cmpi .slt v2381 c0_i32_1514
  let c0_i32_1515 : BitVec 32 := 0#32
  let v2384 : BitVec 1 := Scalar.cmpi .slt v2380 c0_i32_1515
  let v2385 : BitVec 1 := Scalar.xori v2383 v2384
  let c0_i32_1513 : BitVec 32 := 0#32
  let v2382 : BitVec 1 := Scalar.cmpi .ne v2381 c0_i32_1513
  let v2386 : BitVec 1 := Scalar.andi v2385 v2382
  let v2387 : BitVec 32 := Scalar.addi v2381 v2380
  let v2388 : BitVec 32 := Scalar.select v2386 v2387 v2381
  let c128_i32_1516 : BitVec 32 := 128#32
  let v2389 : BitVec 32 := Scalar.muli v2388 c128_i32_1516
  let v2390 : BitVec 32 := v2389
  let c1_i32_1517 : BitVec 32 := 1#32
  let v2391 : BitVec 32 := Scalar.muli v2390 c1_i32_1517
  let c0_i32_1518 : BitVec 32 := 0#32
  let v2392 : BitVec 32 := Scalar.addi v2391 c0_i32_1518
  let v2437 : Index := Scalar.indexCast v2392
  let c0_1546 : Index := 0#32
  ![0, v2437.toNat, 0]
def k0_mult4 (k0_t1 : Fin k0_t1_loop.trips) : BitVec 32 :=
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let c0_i32_1510 : BitVec 32 := 0#32
  let v2378 : BitVec 32 := Scalar.addi v2377 c0_i32_1510
  let c16_i32_1556 : BitVec 32 := 16#32
  let c0_i32_1557 : BitVec 32 := 0#32
  let v2461 : BitVec 1 := Scalar.cmpi .eq c16_i32_1556 c0_i32_1557
  let c1_i32_1558 : BitVec 32 := 1#32
  let v2462 : BitVec 32 := Scalar.select v2461 c1_i32_1558 c16_i32_1556
  let v2463 : BitVec 32 := Scalar.remsi v2378 v2462
  let c0_i32_1560 : BitVec 32 := 0#32
  let v2465 : BitVec 1 := Scalar.cmpi .slt v2463 c0_i32_1560
  let c0_i32_1561 : BitVec 32 := 0#32
  let v2466 : BitVec 1 := Scalar.cmpi .slt v2462 c0_i32_1561
  let v2467 : BitVec 1 := Scalar.xori v2465 v2466
  let c0_i32_1559 : BitVec 32 := 0#32
  let v2464 : BitVec 1 := Scalar.cmpi .ne v2463 c0_i32_1559
  let v2468 : BitVec 1 := Scalar.andi v2467 v2464
  let v2469 : BitVec 32 := Scalar.addi v2463 v2462
  let v2470 : BitVec 32 := Scalar.select v2468 v2469 v2463
  let c128_i32_1562 : BitVec 32 := 128#32
  let v2471 : BitVec 32 := Scalar.muli v2470 c128_i32_1562
  v2471
def k0_mult5 (k0_t1 : Fin k0_t1_loop.trips) : BitVec 32 :=
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let c0_i32_1510 : BitVec 32 := 0#32
  let v2378 : BitVec 32 := Scalar.addi v2377 c0_i32_1510
  let c16_i32_1556 : BitVec 32 := 16#32
  let c0_i32_1557 : BitVec 32 := 0#32
  let v2461 : BitVec 1 := Scalar.cmpi .eq c16_i32_1556 c0_i32_1557
  let c1_i32_1558 : BitVec 32 := 1#32
  let v2462 : BitVec 32 := Scalar.select v2461 c1_i32_1558 c16_i32_1556
  let v2463 : BitVec 32 := Scalar.remsi v2378 v2462
  let c0_i32_1560 : BitVec 32 := 0#32
  let v2465 : BitVec 1 := Scalar.cmpi .slt v2463 c0_i32_1560
  let c0_i32_1561 : BitVec 32 := 0#32
  let v2466 : BitVec 1 := Scalar.cmpi .slt v2462 c0_i32_1561
  let v2467 : BitVec 1 := Scalar.xori v2465 v2466
  let c0_i32_1559 : BitVec 32 := 0#32
  let v2464 : BitVec 1 := Scalar.cmpi .ne v2463 c0_i32_1559
  let v2468 : BitVec 1 := Scalar.andi v2467 v2464
  let v2469 : BitVec 32 := Scalar.addi v2463 v2462
  let v2470 : BitVec 32 := Scalar.select v2468 v2469 v2463
  let c1_i32_1563 : BitVec 32 := 1#32
  let v2473 : BitVec 32 := Scalar.subi v2470 c1_i32_1563
  let c0_i32_1564 : BitVec 32 := 0#32
  let v2474 : BitVec 32 := Scalar.maxsi v2473 c0_i32_1564
  let c128_i32_1565 : BitVec 32 := 128#32
  let v2475 : BitVec 32 := Scalar.muli v2474 c128_i32_1565
  v2475
def k0_off4 (k0_t1 : Fin k0_t1_loop.trips) (c0_i32_1510 : BitVec 32) : Fin 4 → Nat :=
  let c0_1566 : Index := 0#32
  let c0_1567 : Index := 0#32
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let v2378 : BitVec 32 := Scalar.addi v2377 c0_i32_1510
  let c16_i32_1556 : BitVec 32 := 16#32
  let c0_i32_1557 : BitVec 32 := 0#32
  let v2461 : BitVec 1 := Scalar.cmpi .eq c16_i32_1556 c0_i32_1557
  let c1_i32_1558 : BitVec 32 := 1#32
  let v2462 : BitVec 32 := Scalar.select v2461 c1_i32_1558 c16_i32_1556
  let v2463 : BitVec 32 := Scalar.remsi v2378 v2462
  let c0_i32_1560 : BitVec 32 := 0#32
  let v2465 : BitVec 1 := Scalar.cmpi .slt v2463 c0_i32_1560
  let c0_i32_1561 : BitVec 32 := 0#32
  let v2466 : BitVec 1 := Scalar.cmpi .slt v2462 c0_i32_1561
  let v2467 : BitVec 1 := Scalar.xori v2465 v2466
  let c0_i32_1559 : BitVec 32 := 0#32
  let v2464 : BitVec 1 := Scalar.cmpi .ne v2463 c0_i32_1559
  let v2468 : BitVec 1 := Scalar.andi v2467 v2464
  let v2469 : BitVec 32 := Scalar.addi v2463 v2462
  let v2470 : BitVec 32 := Scalar.select v2468 v2469 v2463
  let c128_i32_1562 : BitVec 32 := 128#32
  let v2471 : BitVec 32 := Scalar.muli v2470 c128_i32_1562
  let v2472 : BitVec 32 := v2471
  let v2477 : Index := Scalar.indexCast v2472
  let c128_1568 : Index := 128#32
  ![0, 0, v2477.toNat, 128]
def k0_off5 (k0_t1 : Fin k0_t1_loop.trips) (c0_i32_1510 : BitVec 32) : Fin 4 → Nat :=
  let c0_1569 : Index := 0#32
  let c0_1570 : Index := 0#32
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let v2378 : BitVec 32 := Scalar.addi v2377 c0_i32_1510
  let c16_i32_1556 : BitVec 32 := 16#32
  let c0_i32_1557 : BitVec 32 := 0#32
  let v2461 : BitVec 1 := Scalar.cmpi .eq c16_i32_1556 c0_i32_1557
  let c1_i32_1558 : BitVec 32 := 1#32
  let v2462 : BitVec 32 := Scalar.select v2461 c1_i32_1558 c16_i32_1556
  let v2463 : BitVec 32 := Scalar.remsi v2378 v2462
  let c0_i32_1560 : BitVec 32 := 0#32
  let v2465 : BitVec 1 := Scalar.cmpi .slt v2463 c0_i32_1560
  let c0_i32_1561 : BitVec 32 := 0#32
  let v2466 : BitVec 1 := Scalar.cmpi .slt v2462 c0_i32_1561
  let v2467 : BitVec 1 := Scalar.xori v2465 v2466
  let c0_i32_1559 : BitVec 32 := 0#32
  let v2464 : BitVec 1 := Scalar.cmpi .ne v2463 c0_i32_1559
  let v2468 : BitVec 1 := Scalar.andi v2467 v2464
  let v2469 : BitVec 32 := Scalar.addi v2463 v2462
  let v2470 : BitVec 32 := Scalar.select v2468 v2469 v2463
  let c1_i32_1563 : BitVec 32 := 1#32
  let v2473 : BitVec 32 := Scalar.subi v2470 c1_i32_1563
  let c0_i32_1564 : BitVec 32 := 0#32
  let v2474 : BitVec 32 := Scalar.maxsi v2473 c0_i32_1564
  let c128_i32_1565 : BitVec 32 := 128#32
  let v2475 : BitVec 32 := Scalar.muli v2474 c128_i32_1565
  let v2476 : BitVec 32 := v2475
  let v2480 : Index := Scalar.indexCast v2476
  let c128_1571 : Index := 128#32
  ![0, 0, v2480.toNat, 128]
def k0_off6 (k0_t1 : Fin k0_t1_loop.trips) (c0_i32_1510 : BitVec 32) : Fin 3 → Nat :=
  let c0_1575 : Index := 0#32
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let v2378 : BitVec 32 := Scalar.addi v2377 c0_i32_1510
  let c16_i32 : BitVec 32 := 16#32
  let c0_i32_1511 : BitVec 32 := 0#32
  let v2379 : BitVec 1 := Scalar.cmpi .eq c16_i32 c0_i32_1511
  let c1_i32_1512 : BitVec 32 := 1#32
  let v2380 : BitVec 32 := Scalar.select v2379 c1_i32_1512 c16_i32
  let v2381 : BitVec 32 := Scalar.remsi v2378 v2380
  let c0_i32_1514 : BitVec 32 := 0#32
  let v2383 : BitVec 1 := Scalar.cmpi .slt v2381 c0_i32_1514
  let c0_i32_1515 : BitVec 32 := 0#32
  let v2384 : BitVec 1 := Scalar.cmpi .slt v2380 c0_i32_1515
  let v2385 : BitVec 1 := Scalar.xori v2383 v2384
  let c0_i32_1513 : BitVec 32 := 0#32
  let v2382 : BitVec 1 := Scalar.cmpi .ne v2381 c0_i32_1513
  let v2386 : BitVec 1 := Scalar.andi v2385 v2382
  let v2387 : BitVec 32 := Scalar.addi v2381 v2380
  let v2388 : BitVec 32 := Scalar.select v2386 v2387 v2381
  let c128_i32_1516 : BitVec 32 := 128#32
  let v2389 : BitVec 32 := Scalar.muli v2388 c128_i32_1516
  let v2390 : BitVec 32 := v2389
  let c1_i32_1517 : BitVec 32 := 1#32
  let v2391 : BitVec 32 := Scalar.muli v2390 c1_i32_1517
  let c0_i32_1518 : BitVec 32 := 0#32
  let v2392 : BitVec 32 := Scalar.addi v2391 c0_i32_1518
  let v2500 : Index := Scalar.indexCast v2392
  let c128_1576 : Index := 128#32
  ![0, v2500.toNat, 128]
def k0_mult6 (k0_t1 : Fin k0_t1_loop.trips) : BitVec 32 :=
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let c0_i32_1510 : BitVec 32 := 0#32
  let v2378 : BitVec 32 := Scalar.addi v2377 c0_i32_1510
  let c16_i32_1586 : BitVec 32 := 16#32
  let c0_i32_1587 : BitVec 32 := 0#32
  let v2524 : BitVec 1 := Scalar.cmpi .eq c16_i32_1586 c0_i32_1587
  let c1_i32_1588 : BitVec 32 := 1#32
  let v2525 : BitVec 32 := Scalar.select v2524 c1_i32_1588 c16_i32_1586
  let v2526 : BitVec 32 := Scalar.remsi v2378 v2525
  let c0_i32_1590 : BitVec 32 := 0#32
  let v2528 : BitVec 1 := Scalar.cmpi .slt v2526 c0_i32_1590
  let c0_i32_1591 : BitVec 32 := 0#32
  let v2529 : BitVec 1 := Scalar.cmpi .slt v2525 c0_i32_1591
  let v2530 : BitVec 1 := Scalar.xori v2528 v2529
  let c0_i32_1589 : BitVec 32 := 0#32
  let v2527 : BitVec 1 := Scalar.cmpi .ne v2526 c0_i32_1589
  let v2531 : BitVec 1 := Scalar.andi v2530 v2527
  let v2532 : BitVec 32 := Scalar.addi v2526 v2525
  let v2533 : BitVec 32 := Scalar.select v2531 v2532 v2526
  let c128_i32_1592 : BitVec 32 := 128#32
  let v2534 : BitVec 32 := Scalar.muli v2533 c128_i32_1592
  v2534
def k0_mult7 (k0_t1 : Fin k0_t1_loop.trips) : BitVec 32 :=
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let c0_i32_1510 : BitVec 32 := 0#32
  let v2378 : BitVec 32 := Scalar.addi v2377 c0_i32_1510
  let c16_i32_1586 : BitVec 32 := 16#32
  let c0_i32_1587 : BitVec 32 := 0#32
  let v2524 : BitVec 1 := Scalar.cmpi .eq c16_i32_1586 c0_i32_1587
  let c1_i32_1588 : BitVec 32 := 1#32
  let v2525 : BitVec 32 := Scalar.select v2524 c1_i32_1588 c16_i32_1586
  let v2526 : BitVec 32 := Scalar.remsi v2378 v2525
  let c0_i32_1590 : BitVec 32 := 0#32
  let v2528 : BitVec 1 := Scalar.cmpi .slt v2526 c0_i32_1590
  let c0_i32_1591 : BitVec 32 := 0#32
  let v2529 : BitVec 1 := Scalar.cmpi .slt v2525 c0_i32_1591
  let v2530 : BitVec 1 := Scalar.xori v2528 v2529
  let c0_i32_1589 : BitVec 32 := 0#32
  let v2527 : BitVec 1 := Scalar.cmpi .ne v2526 c0_i32_1589
  let v2531 : BitVec 1 := Scalar.andi v2530 v2527
  let v2532 : BitVec 32 := Scalar.addi v2526 v2525
  let v2533 : BitVec 32 := Scalar.select v2531 v2532 v2526
  let c1_i32_1593 : BitVec 32 := 1#32
  let v2536 : BitVec 32 := Scalar.subi v2533 c1_i32_1593
  let c0_i32_1594 : BitVec 32 := 0#32
  let v2537 : BitVec 32 := Scalar.maxsi v2536 c0_i32_1594
  let c128_i32_1595 : BitVec 32 := 128#32
  let v2538 : BitVec 32 := Scalar.muli v2537 c128_i32_1595
  v2538
def k0_off7 (k0_t1 : Fin k0_t1_loop.trips) (c0_i32_1510 : BitVec 32) : Fin 4 → Nat :=
  let c0_1596 : Index := 0#32
  let c0_1597 : Index := 0#32
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let v2378 : BitVec 32 := Scalar.addi v2377 c0_i32_1510
  let c16_i32_1586 : BitVec 32 := 16#32
  let c0_i32_1587 : BitVec 32 := 0#32
  let v2524 : BitVec 1 := Scalar.cmpi .eq c16_i32_1586 c0_i32_1587
  let c1_i32_1588 : BitVec 32 := 1#32
  let v2525 : BitVec 32 := Scalar.select v2524 c1_i32_1588 c16_i32_1586
  let v2526 : BitVec 32 := Scalar.remsi v2378 v2525
  let c0_i32_1590 : BitVec 32 := 0#32
  let v2528 : BitVec 1 := Scalar.cmpi .slt v2526 c0_i32_1590
  let c0_i32_1591 : BitVec 32 := 0#32
  let v2529 : BitVec 1 := Scalar.cmpi .slt v2525 c0_i32_1591
  let v2530 : BitVec 1 := Scalar.xori v2528 v2529
  let c0_i32_1589 : BitVec 32 := 0#32
  let v2527 : BitVec 1 := Scalar.cmpi .ne v2526 c0_i32_1589
  let v2531 : BitVec 1 := Scalar.andi v2530 v2527
  let v2532 : BitVec 32 := Scalar.addi v2526 v2525
  let v2533 : BitVec 32 := Scalar.select v2531 v2532 v2526
  let c128_i32_1592 : BitVec 32 := 128#32
  let v2534 : BitVec 32 := Scalar.muli v2533 c128_i32_1592
  let v2535 : BitVec 32 := v2534
  let v2540 : Index := Scalar.indexCast v2535
  let c256_1598 : Index := 256#32
  ![0, 0, v2540.toNat, 256]
def k0_off8 (k0_t1 : Fin k0_t1_loop.trips) (c0_i32_1510 : BitVec 32) : Fin 4 → Nat :=
  let c0_1599 : Index := 0#32
  let c0_1600 : Index := 0#32
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let v2378 : BitVec 32 := Scalar.addi v2377 c0_i32_1510
  let c16_i32_1586 : BitVec 32 := 16#32
  let c0_i32_1587 : BitVec 32 := 0#32
  let v2524 : BitVec 1 := Scalar.cmpi .eq c16_i32_1586 c0_i32_1587
  let c1_i32_1588 : BitVec 32 := 1#32
  let v2525 : BitVec 32 := Scalar.select v2524 c1_i32_1588 c16_i32_1586
  let v2526 : BitVec 32 := Scalar.remsi v2378 v2525
  let c0_i32_1590 : BitVec 32 := 0#32
  let v2528 : BitVec 1 := Scalar.cmpi .slt v2526 c0_i32_1590
  let c0_i32_1591 : BitVec 32 := 0#32
  let v2529 : BitVec 1 := Scalar.cmpi .slt v2525 c0_i32_1591
  let v2530 : BitVec 1 := Scalar.xori v2528 v2529
  let c0_i32_1589 : BitVec 32 := 0#32
  let v2527 : BitVec 1 := Scalar.cmpi .ne v2526 c0_i32_1589
  let v2531 : BitVec 1 := Scalar.andi v2530 v2527
  let v2532 : BitVec 32 := Scalar.addi v2526 v2525
  let v2533 : BitVec 32 := Scalar.select v2531 v2532 v2526
  let c1_i32_1593 : BitVec 32 := 1#32
  let v2536 : BitVec 32 := Scalar.subi v2533 c1_i32_1593
  let c0_i32_1594 : BitVec 32 := 0#32
  let v2537 : BitVec 32 := Scalar.maxsi v2536 c0_i32_1594
  let c128_i32_1595 : BitVec 32 := 128#32
  let v2538 : BitVec 32 := Scalar.muli v2537 c128_i32_1595
  let v2539 : BitVec 32 := v2538
  let v2543 : Index := Scalar.indexCast v2539
  let c256_1601 : Index := 256#32
  ![0, 0, v2543.toNat, 256]
def k0_off9 (k0_t1 : Fin k0_t1_loop.trips) (c0_i32_1510 : BitVec 32) : Fin 3 → Nat :=
  let c0_1605 : Index := 0#32
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let v2378 : BitVec 32 := Scalar.addi v2377 c0_i32_1510
  let c16_i32 : BitVec 32 := 16#32
  let c0_i32_1511 : BitVec 32 := 0#32
  let v2379 : BitVec 1 := Scalar.cmpi .eq c16_i32 c0_i32_1511
  let c1_i32_1512 : BitVec 32 := 1#32
  let v2380 : BitVec 32 := Scalar.select v2379 c1_i32_1512 c16_i32
  let v2381 : BitVec 32 := Scalar.remsi v2378 v2380
  let c0_i32_1514 : BitVec 32 := 0#32
  let v2383 : BitVec 1 := Scalar.cmpi .slt v2381 c0_i32_1514
  let c0_i32_1515 : BitVec 32 := 0#32
  let v2384 : BitVec 1 := Scalar.cmpi .slt v2380 c0_i32_1515
  let v2385 : BitVec 1 := Scalar.xori v2383 v2384
  let c0_i32_1513 : BitVec 32 := 0#32
  let v2382 : BitVec 1 := Scalar.cmpi .ne v2381 c0_i32_1513
  let v2386 : BitVec 1 := Scalar.andi v2385 v2382
  let v2387 : BitVec 32 := Scalar.addi v2381 v2380
  let v2388 : BitVec 32 := Scalar.select v2386 v2387 v2381
  let c128_i32_1516 : BitVec 32 := 128#32
  let v2389 : BitVec 32 := Scalar.muli v2388 c128_i32_1516
  let v2390 : BitVec 32 := v2389
  let c1_i32_1517 : BitVec 32 := 1#32
  let v2391 : BitVec 32 := Scalar.muli v2390 c1_i32_1517
  let c0_i32_1518 : BitVec 32 := 0#32
  let v2392 : BitVec 32 := Scalar.addi v2391 c0_i32_1518
  let v2563 : Index := Scalar.indexCast v2392
  let c256_1606 : Index := 256#32
  ![0, v2563.toNat, 256]
def k0_mult8 (k0_t1 : Fin k0_t1_loop.trips) : BitVec 32 :=
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let c0_i32_1510 : BitVec 32 := 0#32
  let v2378 : BitVec 32 := Scalar.addi v2377 c0_i32_1510
  let c16_i32_1616 : BitVec 32 := 16#32
  let c0_i32_1617 : BitVec 32 := 0#32
  let v2587 : BitVec 1 := Scalar.cmpi .eq c16_i32_1616 c0_i32_1617
  let c1_i32_1618 : BitVec 32 := 1#32
  let v2588 : BitVec 32 := Scalar.select v2587 c1_i32_1618 c16_i32_1616
  let v2589 : BitVec 32 := Scalar.remsi v2378 v2588
  let c0_i32_1620 : BitVec 32 := 0#32
  let v2591 : BitVec 1 := Scalar.cmpi .slt v2589 c0_i32_1620
  let c0_i32_1621 : BitVec 32 := 0#32
  let v2592 : BitVec 1 := Scalar.cmpi .slt v2588 c0_i32_1621
  let v2593 : BitVec 1 := Scalar.xori v2591 v2592
  let c0_i32_1619 : BitVec 32 := 0#32
  let v2590 : BitVec 1 := Scalar.cmpi .ne v2589 c0_i32_1619
  let v2594 : BitVec 1 := Scalar.andi v2593 v2590
  let v2595 : BitVec 32 := Scalar.addi v2589 v2588
  let v2596 : BitVec 32 := Scalar.select v2594 v2595 v2589
  let c128_i32_1622 : BitVec 32 := 128#32
  let v2597 : BitVec 32 := Scalar.muli v2596 c128_i32_1622
  v2597
def k0_mult9 (k0_t1 : Fin k0_t1_loop.trips) : BitVec 32 :=
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let c0_i32_1510 : BitVec 32 := 0#32
  let v2378 : BitVec 32 := Scalar.addi v2377 c0_i32_1510
  let c16_i32_1616 : BitVec 32 := 16#32
  let c0_i32_1617 : BitVec 32 := 0#32
  let v2587 : BitVec 1 := Scalar.cmpi .eq c16_i32_1616 c0_i32_1617
  let c1_i32_1618 : BitVec 32 := 1#32
  let v2588 : BitVec 32 := Scalar.select v2587 c1_i32_1618 c16_i32_1616
  let v2589 : BitVec 32 := Scalar.remsi v2378 v2588
  let c0_i32_1620 : BitVec 32 := 0#32
  let v2591 : BitVec 1 := Scalar.cmpi .slt v2589 c0_i32_1620
  let c0_i32_1621 : BitVec 32 := 0#32
  let v2592 : BitVec 1 := Scalar.cmpi .slt v2588 c0_i32_1621
  let v2593 : BitVec 1 := Scalar.xori v2591 v2592
  let c0_i32_1619 : BitVec 32 := 0#32
  let v2590 : BitVec 1 := Scalar.cmpi .ne v2589 c0_i32_1619
  let v2594 : BitVec 1 := Scalar.andi v2593 v2590
  let v2595 : BitVec 32 := Scalar.addi v2589 v2588
  let v2596 : BitVec 32 := Scalar.select v2594 v2595 v2589
  let c1_i32_1623 : BitVec 32 := 1#32
  let v2599 : BitVec 32 := Scalar.subi v2596 c1_i32_1623
  let c0_i32_1624 : BitVec 32 := 0#32
  let v2600 : BitVec 32 := Scalar.maxsi v2599 c0_i32_1624
  let c128_i32_1625 : BitVec 32 := 128#32
  let v2601 : BitVec 32 := Scalar.muli v2600 c128_i32_1625
  v2601
def k0_off10 (k0_t1 : Fin k0_t1_loop.trips) (c0_i32_1510 : BitVec 32) : Fin 4 → Nat :=
  let c0_1626 : Index := 0#32
  let c0_1627 : Index := 0#32
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let v2378 : BitVec 32 := Scalar.addi v2377 c0_i32_1510
  let c16_i32_1616 : BitVec 32 := 16#32
  let c0_i32_1617 : BitVec 32 := 0#32
  let v2587 : BitVec 1 := Scalar.cmpi .eq c16_i32_1616 c0_i32_1617
  let c1_i32_1618 : BitVec 32 := 1#32
  let v2588 : BitVec 32 := Scalar.select v2587 c1_i32_1618 c16_i32_1616
  let v2589 : BitVec 32 := Scalar.remsi v2378 v2588
  let c0_i32_1620 : BitVec 32 := 0#32
  let v2591 : BitVec 1 := Scalar.cmpi .slt v2589 c0_i32_1620
  let c0_i32_1621 : BitVec 32 := 0#32
  let v2592 : BitVec 1 := Scalar.cmpi .slt v2588 c0_i32_1621
  let v2593 : BitVec 1 := Scalar.xori v2591 v2592
  let c0_i32_1619 : BitVec 32 := 0#32
  let v2590 : BitVec 1 := Scalar.cmpi .ne v2589 c0_i32_1619
  let v2594 : BitVec 1 := Scalar.andi v2593 v2590
  let v2595 : BitVec 32 := Scalar.addi v2589 v2588
  let v2596 : BitVec 32 := Scalar.select v2594 v2595 v2589
  let c128_i32_1622 : BitVec 32 := 128#32
  let v2597 : BitVec 32 := Scalar.muli v2596 c128_i32_1622
  let v2598 : BitVec 32 := v2597
  let v2603 : Index := Scalar.indexCast v2598
  let c384_1628 : Index := 384#32
  ![0, 0, v2603.toNat, 384]
def k0_off11 (k0_t1 : Fin k0_t1_loop.trips) (c0_i32_1510 : BitVec 32) : Fin 4 → Nat :=
  let c0_1629 : Index := 0#32
  let c0_1630 : Index := 0#32
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let v2378 : BitVec 32 := Scalar.addi v2377 c0_i32_1510
  let c16_i32_1616 : BitVec 32 := 16#32
  let c0_i32_1617 : BitVec 32 := 0#32
  let v2587 : BitVec 1 := Scalar.cmpi .eq c16_i32_1616 c0_i32_1617
  let c1_i32_1618 : BitVec 32 := 1#32
  let v2588 : BitVec 32 := Scalar.select v2587 c1_i32_1618 c16_i32_1616
  let v2589 : BitVec 32 := Scalar.remsi v2378 v2588
  let c0_i32_1620 : BitVec 32 := 0#32
  let v2591 : BitVec 1 := Scalar.cmpi .slt v2589 c0_i32_1620
  let c0_i32_1621 : BitVec 32 := 0#32
  let v2592 : BitVec 1 := Scalar.cmpi .slt v2588 c0_i32_1621
  let v2593 : BitVec 1 := Scalar.xori v2591 v2592
  let c0_i32_1619 : BitVec 32 := 0#32
  let v2590 : BitVec 1 := Scalar.cmpi .ne v2589 c0_i32_1619
  let v2594 : BitVec 1 := Scalar.andi v2593 v2590
  let v2595 : BitVec 32 := Scalar.addi v2589 v2588
  let v2596 : BitVec 32 := Scalar.select v2594 v2595 v2589
  let c1_i32_1623 : BitVec 32 := 1#32
  let v2599 : BitVec 32 := Scalar.subi v2596 c1_i32_1623
  let c0_i32_1624 : BitVec 32 := 0#32
  let v2600 : BitVec 32 := Scalar.maxsi v2599 c0_i32_1624
  let c128_i32_1625 : BitVec 32 := 128#32
  let v2601 : BitVec 32 := Scalar.muli v2600 c128_i32_1625
  let v2602 : BitVec 32 := v2601
  let v2606 : Index := Scalar.indexCast v2602
  let c384_1631 : Index := 384#32
  ![0, 0, v2606.toNat, 384]
def k0_off12 (k0_t1 : Fin k0_t1_loop.trips) (c0_i32_1510 : BitVec 32) : Fin 3 → Nat :=
  let c0_1635 : Index := 0#32
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let v2378 : BitVec 32 := Scalar.addi v2377 c0_i32_1510
  let c16_i32 : BitVec 32 := 16#32
  let c0_i32_1511 : BitVec 32 := 0#32
  let v2379 : BitVec 1 := Scalar.cmpi .eq c16_i32 c0_i32_1511
  let c1_i32_1512 : BitVec 32 := 1#32
  let v2380 : BitVec 32 := Scalar.select v2379 c1_i32_1512 c16_i32
  let v2381 : BitVec 32 := Scalar.remsi v2378 v2380
  let c0_i32_1514 : BitVec 32 := 0#32
  let v2383 : BitVec 1 := Scalar.cmpi .slt v2381 c0_i32_1514
  let c0_i32_1515 : BitVec 32 := 0#32
  let v2384 : BitVec 1 := Scalar.cmpi .slt v2380 c0_i32_1515
  let v2385 : BitVec 1 := Scalar.xori v2383 v2384
  let c0_i32_1513 : BitVec 32 := 0#32
  let v2382 : BitVec 1 := Scalar.cmpi .ne v2381 c0_i32_1513
  let v2386 : BitVec 1 := Scalar.andi v2385 v2382
  let v2387 : BitVec 32 := Scalar.addi v2381 v2380
  let v2388 : BitVec 32 := Scalar.select v2386 v2387 v2381
  let c128_i32_1516 : BitVec 32 := 128#32
  let v2389 : BitVec 32 := Scalar.muli v2388 c128_i32_1516
  let v2390 : BitVec 32 := v2389
  let c1_i32_1517 : BitVec 32 := 1#32
  let v2391 : BitVec 32 := Scalar.muli v2390 c1_i32_1517
  let c0_i32_1518 : BitVec 32 := 0#32
  let v2392 : BitVec 32 := Scalar.addi v2391 c0_i32_1518
  let v2626 : Index := Scalar.indexCast v2392
  let c384_1636 : Index := 384#32
  ![0, v2626.toNat, 384]
def k0_off13 (k0_t1 : Fin k0_t1_loop.trips) (c0_i32_1510 : BitVec 32) : Fin 3 → Nat :=
  let c0_1641 : Index := 0#32
  let c2_i32_1509 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2377 : BitVec 32 := Scalar.muli c2_i32_1509 v2376
  let v2378 : BitVec 32 := Scalar.addi v2377 c0_i32_1510
  let c16_i32 : BitVec 32 := 16#32
  let c0_i32_1511 : BitVec 32 := 0#32
  let v2379 : BitVec 1 := Scalar.cmpi .eq c16_i32 c0_i32_1511
  let c1_i32_1512 : BitVec 32 := 1#32
  let v2380 : BitVec 32 := Scalar.select v2379 c1_i32_1512 c16_i32
  let v2381 : BitVec 32 := Scalar.remsi v2378 v2380
  let c0_i32_1514 : BitVec 32 := 0#32
  let v2383 : BitVec 1 := Scalar.cmpi .slt v2381 c0_i32_1514
  let c0_i32_1515 : BitVec 32 := 0#32
  let v2384 : BitVec 1 := Scalar.cmpi .slt v2380 c0_i32_1515
  let v2385 : BitVec 1 := Scalar.xori v2383 v2384
  let c0_i32_1513 : BitVec 32 := 0#32
  let v2382 : BitVec 1 := Scalar.cmpi .ne v2381 c0_i32_1513
  let v2386 : BitVec 1 := Scalar.andi v2385 v2382
  let v2387 : BitVec 32 := Scalar.addi v2381 v2380
  let v2388 : BitVec 32 := Scalar.select v2386 v2387 v2381
  let c128_i32_1516 : BitVec 32 := 128#32
  let v2389 : BitVec 32 := Scalar.muli v2388 c128_i32_1516
  let v2390 : BitVec 32 := v2389
  let c1_i32_1517 : BitVec 32 := 1#32
  let v2391 : BitVec 32 := Scalar.muli v2390 c1_i32_1517
  let c0_i32_1518 : BitVec 32 := 0#32
  let v2392 : BitVec 32 := Scalar.addi v2391 c0_i32_1518
  let v2649 : Index := Scalar.indexCast v2392
  let c0_1642 : Index := 0#32
  ![0, v2649.toNat, 0]
def k0_mult10 (k0_t1 : Fin k0_t1_loop.trips) : BitVec 32 :=
  let c2_i32_1643 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2653 : BitVec 32 := Scalar.muli c2_i32_1643 v2376
  let c1_i32_1644 : BitVec 32 := 1#32
  let v2654 : BitVec 32 := Scalar.addi v2653 c1_i32_1644
  let c16_i32_1645 : BitVec 32 := 16#32
  let c0_i32_1646 : BitVec 32 := 0#32
  let v2655 : BitVec 1 := Scalar.cmpi .eq c16_i32_1645 c0_i32_1646
  let c1_i32_1647 : BitVec 32 := 1#32
  let v2656 : BitVec 32 := Scalar.select v2655 c1_i32_1647 c16_i32_1645
  let v2657 : BitVec 32 := Scalar.remsi v2654 v2656
  let c0_i32_1649 : BitVec 32 := 0#32
  let v2659 : BitVec 1 := Scalar.cmpi .slt v2657 c0_i32_1649
  let c0_i32_1650 : BitVec 32 := 0#32
  let v2660 : BitVec 1 := Scalar.cmpi .slt v2656 c0_i32_1650
  let v2661 : BitVec 1 := Scalar.xori v2659 v2660
  let c0_i32_1648 : BitVec 32 := 0#32
  let v2658 : BitVec 1 := Scalar.cmpi .ne v2657 c0_i32_1648
  let v2662 : BitVec 1 := Scalar.andi v2661 v2658
  let v2663 : BitVec 32 := Scalar.addi v2657 v2656
  let v2664 : BitVec 32 := Scalar.select v2662 v2663 v2657
  let c128_i32_1651 : BitVec 32 := 128#32
  let v2665 : BitVec 32 := Scalar.muli v2664 c128_i32_1651
  v2665
def k0_mult11 (k0_t1 : Fin k0_t1_loop.trips) : BitVec 32 :=
  let c2_i32_1643 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2653 : BitVec 32 := Scalar.muli c2_i32_1643 v2376
  let c1_i32_1644 : BitVec 32 := 1#32
  let v2654 : BitVec 32 := Scalar.addi v2653 c1_i32_1644
  let c16_i32_1661 : BitVec 32 := 16#32
  let c0_i32_1662 : BitVec 32 := 0#32
  let v2674 : BitVec 1 := Scalar.cmpi .eq c16_i32_1661 c0_i32_1662
  let c1_i32_1663 : BitVec 32 := 1#32
  let v2675 : BitVec 32 := Scalar.select v2674 c1_i32_1663 c16_i32_1661
  let v2676 : BitVec 32 := Scalar.remsi v2654 v2675
  let c0_i32_1665 : BitVec 32 := 0#32
  let v2678 : BitVec 1 := Scalar.cmpi .slt v2676 c0_i32_1665
  let c0_i32_1666 : BitVec 32 := 0#32
  let v2679 : BitVec 1 := Scalar.cmpi .slt v2675 c0_i32_1666
  let v2680 : BitVec 1 := Scalar.xori v2678 v2679
  let c0_i32_1664 : BitVec 32 := 0#32
  let v2677 : BitVec 1 := Scalar.cmpi .ne v2676 c0_i32_1664
  let v2681 : BitVec 1 := Scalar.andi v2680 v2677
  let v2682 : BitVec 32 := Scalar.addi v2676 v2675
  let v2683 : BitVec 32 := Scalar.select v2681 v2682 v2676
  let c128_i32_1667 : BitVec 32 := 128#32
  let v2684 : BitVec 32 := Scalar.muli v2683 c128_i32_1667
  v2684
def k0_mult12 (k0_t1 : Fin k0_t1_loop.trips) : BitVec 32 :=
  let c2_i32_1643 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2653 : BitVec 32 := Scalar.muli c2_i32_1643 v2376
  let c1_i32_1644 : BitVec 32 := 1#32
  let v2654 : BitVec 32 := Scalar.addi v2653 c1_i32_1644
  let c16_i32_1661 : BitVec 32 := 16#32
  let c0_i32_1662 : BitVec 32 := 0#32
  let v2674 : BitVec 1 := Scalar.cmpi .eq c16_i32_1661 c0_i32_1662
  let c1_i32_1663 : BitVec 32 := 1#32
  let v2675 : BitVec 32 := Scalar.select v2674 c1_i32_1663 c16_i32_1661
  let v2676 : BitVec 32 := Scalar.remsi v2654 v2675
  let c0_i32_1665 : BitVec 32 := 0#32
  let v2678 : BitVec 1 := Scalar.cmpi .slt v2676 c0_i32_1665
  let c0_i32_1666 : BitVec 32 := 0#32
  let v2679 : BitVec 1 := Scalar.cmpi .slt v2675 c0_i32_1666
  let v2680 : BitVec 1 := Scalar.xori v2678 v2679
  let c0_i32_1664 : BitVec 32 := 0#32
  let v2677 : BitVec 1 := Scalar.cmpi .ne v2676 c0_i32_1664
  let v2681 : BitVec 1 := Scalar.andi v2680 v2677
  let v2682 : BitVec 32 := Scalar.addi v2676 v2675
  let v2683 : BitVec 32 := Scalar.select v2681 v2682 v2676
  let c1_i32_1668 : BitVec 32 := 1#32
  let v2686 : BitVec 32 := Scalar.subi v2683 c1_i32_1668
  let c0_i32_1669 : BitVec 32 := 0#32
  let v2687 : BitVec 32 := Scalar.maxsi v2686 c0_i32_1669
  let c128_i32_1670 : BitVec 32 := 128#32
  let v2688 : BitVec 32 := Scalar.muli v2687 c128_i32_1670
  v2688
def k0_mult13 (k0_t1 : Fin k0_t1_loop.trips) : BitVec 32 :=
  let c2_i32_1643 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2653 : BitVec 32 := Scalar.muli c2_i32_1643 v2376
  let c1_i32_1644 : BitVec 32 := 1#32
  let v2654 : BitVec 32 := Scalar.addi v2653 c1_i32_1644
  let c16_i32_1691 : BitVec 32 := 16#32
  let c0_i32_1692 : BitVec 32 := 0#32
  let v2737 : BitVec 1 := Scalar.cmpi .eq c16_i32_1691 c0_i32_1692
  let c1_i32_1693 : BitVec 32 := 1#32
  let v2738 : BitVec 32 := Scalar.select v2737 c1_i32_1693 c16_i32_1691
  let v2739 : BitVec 32 := Scalar.remsi v2654 v2738
  let c0_i32_1695 : BitVec 32 := 0#32
  let v2741 : BitVec 1 := Scalar.cmpi .slt v2739 c0_i32_1695
  let c0_i32_1696 : BitVec 32 := 0#32
  let v2742 : BitVec 1 := Scalar.cmpi .slt v2738 c0_i32_1696
  let v2743 : BitVec 1 := Scalar.xori v2741 v2742
  let c0_i32_1694 : BitVec 32 := 0#32
  let v2740 : BitVec 1 := Scalar.cmpi .ne v2739 c0_i32_1694
  let v2744 : BitVec 1 := Scalar.andi v2743 v2740
  let v2745 : BitVec 32 := Scalar.addi v2739 v2738
  let v2746 : BitVec 32 := Scalar.select v2744 v2745 v2739
  let c128_i32_1697 : BitVec 32 := 128#32
  let v2747 : BitVec 32 := Scalar.muli v2746 c128_i32_1697
  v2747
def k0_mult14 (k0_t1 : Fin k0_t1_loop.trips) : BitVec 32 :=
  let c2_i32_1643 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2653 : BitVec 32 := Scalar.muli c2_i32_1643 v2376
  let c1_i32_1644 : BitVec 32 := 1#32
  let v2654 : BitVec 32 := Scalar.addi v2653 c1_i32_1644
  let c16_i32_1691 : BitVec 32 := 16#32
  let c0_i32_1692 : BitVec 32 := 0#32
  let v2737 : BitVec 1 := Scalar.cmpi .eq c16_i32_1691 c0_i32_1692
  let c1_i32_1693 : BitVec 32 := 1#32
  let v2738 : BitVec 32 := Scalar.select v2737 c1_i32_1693 c16_i32_1691
  let v2739 : BitVec 32 := Scalar.remsi v2654 v2738
  let c0_i32_1695 : BitVec 32 := 0#32
  let v2741 : BitVec 1 := Scalar.cmpi .slt v2739 c0_i32_1695
  let c0_i32_1696 : BitVec 32 := 0#32
  let v2742 : BitVec 1 := Scalar.cmpi .slt v2738 c0_i32_1696
  let v2743 : BitVec 1 := Scalar.xori v2741 v2742
  let c0_i32_1694 : BitVec 32 := 0#32
  let v2740 : BitVec 1 := Scalar.cmpi .ne v2739 c0_i32_1694
  let v2744 : BitVec 1 := Scalar.andi v2743 v2740
  let v2745 : BitVec 32 := Scalar.addi v2739 v2738
  let v2746 : BitVec 32 := Scalar.select v2744 v2745 v2739
  let c1_i32_1698 : BitVec 32 := 1#32
  let v2749 : BitVec 32 := Scalar.subi v2746 c1_i32_1698
  let c0_i32_1699 : BitVec 32 := 0#32
  let v2750 : BitVec 32 := Scalar.maxsi v2749 c0_i32_1699
  let c128_i32_1700 : BitVec 32 := 128#32
  let v2751 : BitVec 32 := Scalar.muli v2750 c128_i32_1700
  v2751
def k0_mult15 (k0_t1 : Fin k0_t1_loop.trips) : BitVec 32 :=
  let c2_i32_1643 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2653 : BitVec 32 := Scalar.muli c2_i32_1643 v2376
  let c1_i32_1644 : BitVec 32 := 1#32
  let v2654 : BitVec 32 := Scalar.addi v2653 c1_i32_1644
  let c16_i32_1721 : BitVec 32 := 16#32
  let c0_i32_1722 : BitVec 32 := 0#32
  let v2800 : BitVec 1 := Scalar.cmpi .eq c16_i32_1721 c0_i32_1722
  let c1_i32_1723 : BitVec 32 := 1#32
  let v2801 : BitVec 32 := Scalar.select v2800 c1_i32_1723 c16_i32_1721
  let v2802 : BitVec 32 := Scalar.remsi v2654 v2801
  let c0_i32_1725 : BitVec 32 := 0#32
  let v2804 : BitVec 1 := Scalar.cmpi .slt v2802 c0_i32_1725
  let c0_i32_1726 : BitVec 32 := 0#32
  let v2805 : BitVec 1 := Scalar.cmpi .slt v2801 c0_i32_1726
  let v2806 : BitVec 1 := Scalar.xori v2804 v2805
  let c0_i32_1724 : BitVec 32 := 0#32
  let v2803 : BitVec 1 := Scalar.cmpi .ne v2802 c0_i32_1724
  let v2807 : BitVec 1 := Scalar.andi v2806 v2803
  let v2808 : BitVec 32 := Scalar.addi v2802 v2801
  let v2809 : BitVec 32 := Scalar.select v2807 v2808 v2802
  let c128_i32_1727 : BitVec 32 := 128#32
  let v2810 : BitVec 32 := Scalar.muli v2809 c128_i32_1727
  v2810
def k0_mult16 (k0_t1 : Fin k0_t1_loop.trips) : BitVec 32 :=
  let c2_i32_1643 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2653 : BitVec 32 := Scalar.muli c2_i32_1643 v2376
  let c1_i32_1644 : BitVec 32 := 1#32
  let v2654 : BitVec 32 := Scalar.addi v2653 c1_i32_1644
  let c16_i32_1721 : BitVec 32 := 16#32
  let c0_i32_1722 : BitVec 32 := 0#32
  let v2800 : BitVec 1 := Scalar.cmpi .eq c16_i32_1721 c0_i32_1722
  let c1_i32_1723 : BitVec 32 := 1#32
  let v2801 : BitVec 32 := Scalar.select v2800 c1_i32_1723 c16_i32_1721
  let v2802 : BitVec 32 := Scalar.remsi v2654 v2801
  let c0_i32_1725 : BitVec 32 := 0#32
  let v2804 : BitVec 1 := Scalar.cmpi .slt v2802 c0_i32_1725
  let c0_i32_1726 : BitVec 32 := 0#32
  let v2805 : BitVec 1 := Scalar.cmpi .slt v2801 c0_i32_1726
  let v2806 : BitVec 1 := Scalar.xori v2804 v2805
  let c0_i32_1724 : BitVec 32 := 0#32
  let v2803 : BitVec 1 := Scalar.cmpi .ne v2802 c0_i32_1724
  let v2807 : BitVec 1 := Scalar.andi v2806 v2803
  let v2808 : BitVec 32 := Scalar.addi v2802 v2801
  let v2809 : BitVec 32 := Scalar.select v2807 v2808 v2802
  let c1_i32_1728 : BitVec 32 := 1#32
  let v2812 : BitVec 32 := Scalar.subi v2809 c1_i32_1728
  let c0_i32_1729 : BitVec 32 := 0#32
  let v2813 : BitVec 32 := Scalar.maxsi v2812 c0_i32_1729
  let c128_i32_1730 : BitVec 32 := 128#32
  let v2814 : BitVec 32 := Scalar.muli v2813 c128_i32_1730
  v2814
def k0_mult17 (k0_t1 : Fin k0_t1_loop.trips) : BitVec 32 :=
  let c2_i32_1643 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2653 : BitVec 32 := Scalar.muli c2_i32_1643 v2376
  let c1_i32_1644 : BitVec 32 := 1#32
  let v2654 : BitVec 32 := Scalar.addi v2653 c1_i32_1644
  let c16_i32_1751 : BitVec 32 := 16#32
  let c0_i32_1752 : BitVec 32 := 0#32
  let v2863 : BitVec 1 := Scalar.cmpi .eq c16_i32_1751 c0_i32_1752
  let c1_i32_1753 : BitVec 32 := 1#32
  let v2864 : BitVec 32 := Scalar.select v2863 c1_i32_1753 c16_i32_1751
  let v2865 : BitVec 32 := Scalar.remsi v2654 v2864
  let c0_i32_1755 : BitVec 32 := 0#32
  let v2867 : BitVec 1 := Scalar.cmpi .slt v2865 c0_i32_1755
  let c0_i32_1756 : BitVec 32 := 0#32
  let v2868 : BitVec 1 := Scalar.cmpi .slt v2864 c0_i32_1756
  let v2869 : BitVec 1 := Scalar.xori v2867 v2868
  let c0_i32_1754 : BitVec 32 := 0#32
  let v2866 : BitVec 1 := Scalar.cmpi .ne v2865 c0_i32_1754
  let v2870 : BitVec 1 := Scalar.andi v2869 v2866
  let v2871 : BitVec 32 := Scalar.addi v2865 v2864
  let v2872 : BitVec 32 := Scalar.select v2870 v2871 v2865
  let c128_i32_1757 : BitVec 32 := 128#32
  let v2873 : BitVec 32 := Scalar.muli v2872 c128_i32_1757
  v2873
def k0_mult18 (k0_t1 : Fin k0_t1_loop.trips) : BitVec 32 :=
  let c2_i32_1643 : BitVec 32 := 2#32
  let c3_i32_1025 : BitVec 32 := 3#32
  let c1_i32_1027 : BitVec 32 := 1#32
  let arg14 : BitVec 32 := Scf.iv c3_i32_1025 c1_i32_1027 k0_t1
  let c2_i32_1508 : BitVec 32 := 2#32
  let v2376 : BitVec 32 := Scalar.subi arg14 c2_i32_1508
  let v2653 : BitVec 32 := Scalar.muli c2_i32_1643 v2376
  let c1_i32_1644 : BitVec 32 := 1#32
  let v2654 : BitVec 32 := Scalar.addi v2653 c1_i32_1644
  let c16_i32_1751 : BitVec 32 := 16#32
  let c0_i32_1752 : BitVec 32 := 0#32
  let v2863 : BitVec 1 := Scalar.cmpi .eq c16_i32_1751 c0_i32_1752
  let c1_i32_1753 : BitVec 32 := 1#32
  let v2864 : BitVec 32 := Scalar.select v2863 c1_i32_1753 c16_i32_1751
  let v2865 : BitVec 32 := Scalar.remsi v2654 v2864
  let c0_i32_1755 : BitVec 32 := 0#32
  let v2867 : BitVec 1 := Scalar.cmpi .slt v2865 c0_i32_1755
  let c0_i32_1756 : BitVec 32 := 0#32
  let v2868 : BitVec 1 := Scalar.cmpi .slt v2864 c0_i32_1756
  let v2869 : BitVec 1 := Scalar.xori v2867 v2868
  let c0_i32_1754 : BitVec 32 := 0#32
  let v2866 : BitVec 1 := Scalar.cmpi .ne v2865 c0_i32_1754
  let v2870 : BitVec 1 := Scalar.andi v2869 v2866
  let v2871 : BitVec 32 := Scalar.addi v2865 v2864
  let v2872 : BitVec 32 := Scalar.select v2870 v2871 v2865
  let c1_i32_1758 : BitVec 32 := 1#32
  let v2875 : BitVec 32 := Scalar.subi v2872 c1_i32_1758
  let c0_i32_1759 : BitVec 32 := 0#32
  let v2876 : BitVec 32 := Scalar.maxsi v2875 c0_i32_1759
  let c128_i32_1760 : BitVec 32 := 128#32
  let v2877 : BitVec 32 := Scalar.muli v2876 c128_i32_1760
  v2877
def k0_mult19 (k0_t1 : Fin k0_t1_loop.trips) : BitVec 32 :=
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let c0_i32_1875 : BitVec 32 := 0#32
  let v3042 : BitVec 32 := Scalar.addi v3041 c0_i32_1875
  let c16_i32_1876 : BitVec 32 := 16#32
  let c0_i32_1877 : BitVec 32 := 0#32
  let v3043 : BitVec 1 := Scalar.cmpi .eq c16_i32_1876 c0_i32_1877
  let c1_i32_1878 : BitVec 32 := 1#32
  let v3044 : BitVec 32 := Scalar.select v3043 c1_i32_1878 c16_i32_1876
  let v3045 : BitVec 32 := Scalar.remsi v3042 v3044
  let c0_i32_1880 : BitVec 32 := 0#32
  let v3047 : BitVec 1 := Scalar.cmpi .slt v3045 c0_i32_1880
  let c0_i32_1881 : BitVec 32 := 0#32
  let v3048 : BitVec 1 := Scalar.cmpi .slt v3044 c0_i32_1881
  let v3049 : BitVec 1 := Scalar.xori v3047 v3048
  let c0_i32_1879 : BitVec 32 := 0#32
  let v3046 : BitVec 1 := Scalar.cmpi .ne v3045 c0_i32_1879
  let v3050 : BitVec 1 := Scalar.andi v3049 v3046
  let v3051 : BitVec 32 := Scalar.addi v3045 v3044
  let v3052 : BitVec 32 := Scalar.select v3050 v3051 v3045
  let c128_i32_1882 : BitVec 32 := 128#32
  let v3053 : BitVec 32 := Scalar.muli v3052 c128_i32_1882
  v3053
def k0_off14 (k0_t1 : Fin k0_t1_loop.trips) (c0_i32_1875 : BitVec 32) : Fin 4 → Nat :=
  let c0_1887 : Index := 0#32
  let c0_1888 : Index := 0#32
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let v3042 : BitVec 32 := Scalar.addi v3041 c0_i32_1875
  let c16_i32_1876 : BitVec 32 := 16#32
  let c0_i32_1877 : BitVec 32 := 0#32
  let v3043 : BitVec 1 := Scalar.cmpi .eq c16_i32_1876 c0_i32_1877
  let c1_i32_1878 : BitVec 32 := 1#32
  let v3044 : BitVec 32 := Scalar.select v3043 c1_i32_1878 c16_i32_1876
  let v3045 : BitVec 32 := Scalar.remsi v3042 v3044
  let c0_i32_1880 : BitVec 32 := 0#32
  let v3047 : BitVec 1 := Scalar.cmpi .slt v3045 c0_i32_1880
  let c0_i32_1881 : BitVec 32 := 0#32
  let v3048 : BitVec 1 := Scalar.cmpi .slt v3044 c0_i32_1881
  let v3049 : BitVec 1 := Scalar.xori v3047 v3048
  let c0_i32_1879 : BitVec 32 := 0#32
  let v3046 : BitVec 1 := Scalar.cmpi .ne v3045 c0_i32_1879
  let v3050 : BitVec 1 := Scalar.andi v3049 v3046
  let v3051 : BitVec 32 := Scalar.addi v3045 v3044
  let v3052 : BitVec 32 := Scalar.select v3050 v3051 v3045
  let c128_i32_1882 : BitVec 32 := 128#32
  let v3053 : BitVec 32 := Scalar.muli v3052 c128_i32_1882
  let v3054 : BitVec 32 := v3053
  let v3064 : Index := Scalar.indexCast v3054
  let c0_1889 : Index := 0#32
  ![0, 0, v3064.toNat, 0]
def k0_mult20 (k0_t1 : Fin k0_t1_loop.trips) : BitVec 32 :=
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let c0_i32_1875 : BitVec 32 := 0#32
  let v3042 : BitVec 32 := Scalar.addi v3041 c0_i32_1875
  let c16_i32_1895 : BitVec 32 := 16#32
  let c0_i32_1896 : BitVec 32 := 0#32
  let v3084 : BitVec 1 := Scalar.cmpi .eq c16_i32_1895 c0_i32_1896
  let c1_i32_1897 : BitVec 32 := 1#32
  let v3085 : BitVec 32 := Scalar.select v3084 c1_i32_1897 c16_i32_1895
  let v3086 : BitVec 32 := Scalar.remsi v3042 v3085
  let c0_i32_1899 : BitVec 32 := 0#32
  let v3088 : BitVec 1 := Scalar.cmpi .slt v3086 c0_i32_1899
  let c0_i32_1900 : BitVec 32 := 0#32
  let v3089 : BitVec 1 := Scalar.cmpi .slt v3085 c0_i32_1900
  let v3090 : BitVec 1 := Scalar.xori v3088 v3089
  let c0_i32_1898 : BitVec 32 := 0#32
  let v3087 : BitVec 1 := Scalar.cmpi .ne v3086 c0_i32_1898
  let v3091 : BitVec 1 := Scalar.andi v3090 v3087
  let v3092 : BitVec 32 := Scalar.addi v3086 v3085
  let v3093 : BitVec 32 := Scalar.select v3091 v3092 v3086
  let c128_i32_1901 : BitVec 32 := 128#32
  let v3094 : BitVec 32 := Scalar.muli v3093 c128_i32_1901
  v3094
def k0_mult21 (k0_t1 : Fin k0_t1_loop.trips) : BitVec 32 :=
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let c0_i32_1875 : BitVec 32 := 0#32
  let v3042 : BitVec 32 := Scalar.addi v3041 c0_i32_1875
  let c16_i32_1895 : BitVec 32 := 16#32
  let c0_i32_1896 : BitVec 32 := 0#32
  let v3084 : BitVec 1 := Scalar.cmpi .eq c16_i32_1895 c0_i32_1896
  let c1_i32_1897 : BitVec 32 := 1#32
  let v3085 : BitVec 32 := Scalar.select v3084 c1_i32_1897 c16_i32_1895
  let v3086 : BitVec 32 := Scalar.remsi v3042 v3085
  let c0_i32_1899 : BitVec 32 := 0#32
  let v3088 : BitVec 1 := Scalar.cmpi .slt v3086 c0_i32_1899
  let c0_i32_1900 : BitVec 32 := 0#32
  let v3089 : BitVec 1 := Scalar.cmpi .slt v3085 c0_i32_1900
  let v3090 : BitVec 1 := Scalar.xori v3088 v3089
  let c0_i32_1898 : BitVec 32 := 0#32
  let v3087 : BitVec 1 := Scalar.cmpi .ne v3086 c0_i32_1898
  let v3091 : BitVec 1 := Scalar.andi v3090 v3087
  let v3092 : BitVec 32 := Scalar.addi v3086 v3085
  let v3093 : BitVec 32 := Scalar.select v3091 v3092 v3086
  let c1_i32_1902 : BitVec 32 := 1#32
  let v3096 : BitVec 32 := Scalar.subi v3093 c1_i32_1902
  let c0_i32_1903 : BitVec 32 := 0#32
  let v3097 : BitVec 32 := Scalar.maxsi v3096 c0_i32_1903
  let c128_i32_1904 : BitVec 32 := 128#32
  let v3098 : BitVec 32 := Scalar.muli v3097 c128_i32_1904
  v3098
def k0_off15 (k0_t1 : Fin k0_t1_loop.trips) (c0_i32_1875 : BitVec 32) : Fin 4 → Nat :=
  let c0_1908 : Index := 0#32
  let c0_1909 : Index := 0#32
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let v3042 : BitVec 32 := Scalar.addi v3041 c0_i32_1875
  let c16_i32_1895 : BitVec 32 := 16#32
  let c0_i32_1896 : BitVec 32 := 0#32
  let v3084 : BitVec 1 := Scalar.cmpi .eq c16_i32_1895 c0_i32_1896
  let c1_i32_1897 : BitVec 32 := 1#32
  let v3085 : BitVec 32 := Scalar.select v3084 c1_i32_1897 c16_i32_1895
  let v3086 : BitVec 32 := Scalar.remsi v3042 v3085
  let c0_i32_1899 : BitVec 32 := 0#32
  let v3088 : BitVec 1 := Scalar.cmpi .slt v3086 c0_i32_1899
  let c0_i32_1900 : BitVec 32 := 0#32
  let v3089 : BitVec 1 := Scalar.cmpi .slt v3085 c0_i32_1900
  let v3090 : BitVec 1 := Scalar.xori v3088 v3089
  let c0_i32_1898 : BitVec 32 := 0#32
  let v3087 : BitVec 1 := Scalar.cmpi .ne v3086 c0_i32_1898
  let v3091 : BitVec 1 := Scalar.andi v3090 v3087
  let v3092 : BitVec 32 := Scalar.addi v3086 v3085
  let v3093 : BitVec 32 := Scalar.select v3091 v3092 v3086
  let c1_i32_1902 : BitVec 32 := 1#32
  let v3096 : BitVec 32 := Scalar.subi v3093 c1_i32_1902
  let c0_i32_1903 : BitVec 32 := 0#32
  let v3097 : BitVec 32 := Scalar.maxsi v3096 c0_i32_1903
  let c128_i32_1904 : BitVec 32 := 128#32
  let v3098 : BitVec 32 := Scalar.muli v3097 c128_i32_1904
  let v3099 : BitVec 32 := v3098
  let v3103 : Index := Scalar.indexCast v3099
  let c0_1910 : Index := 0#32
  ![0, 0, v3103.toNat, 0]
def k0_off16 (k0_t1 : Fin k0_t1_loop.trips) (c0_i32_1875 : BitVec 32) : Fin 4 → Nat :=
  let c0_1920 : Index := 0#32
  let c0_1921 : Index := 0#32
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let v3042 : BitVec 32 := Scalar.addi v3041 c0_i32_1875
  let c16_i32_1876 : BitVec 32 := 16#32
  let c0_i32_1877 : BitVec 32 := 0#32
  let v3043 : BitVec 1 := Scalar.cmpi .eq c16_i32_1876 c0_i32_1877
  let c1_i32_1878 : BitVec 32 := 1#32
  let v3044 : BitVec 32 := Scalar.select v3043 c1_i32_1878 c16_i32_1876
  let v3045 : BitVec 32 := Scalar.remsi v3042 v3044
  let c0_i32_1880 : BitVec 32 := 0#32
  let v3047 : BitVec 1 := Scalar.cmpi .slt v3045 c0_i32_1880
  let c0_i32_1881 : BitVec 32 := 0#32
  let v3048 : BitVec 1 := Scalar.cmpi .slt v3044 c0_i32_1881
  let v3049 : BitVec 1 := Scalar.xori v3047 v3048
  let c0_i32_1879 : BitVec 32 := 0#32
  let v3046 : BitVec 1 := Scalar.cmpi .ne v3045 c0_i32_1879
  let v3050 : BitVec 1 := Scalar.andi v3049 v3046
  let v3051 : BitVec 32 := Scalar.addi v3045 v3044
  let v3052 : BitVec 32 := Scalar.select v3050 v3051 v3045
  let c128_i32_1882 : BitVec 32 := 128#32
  let v3053 : BitVec 32 := Scalar.muli v3052 c128_i32_1882
  let v3054 : BitVec 32 := v3053
  let v3118 : Index := Scalar.indexCast v3054
  let c128_1922 : Index := 128#32
  ![0, 0, v3118.toNat, 128]
def k0_mult22 (k0_t1 : Fin k0_t1_loop.trips) : BitVec 32 :=
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let c0_i32_1875 : BitVec 32 := 0#32
  let v3042 : BitVec 32 := Scalar.addi v3041 c0_i32_1875
  let c16_i32_1928 : BitVec 32 := 16#32
  let c0_i32_1929 : BitVec 32 := 0#32
  let v3138 : BitVec 1 := Scalar.cmpi .eq c16_i32_1928 c0_i32_1929
  let c1_i32_1930 : BitVec 32 := 1#32
  let v3139 : BitVec 32 := Scalar.select v3138 c1_i32_1930 c16_i32_1928
  let v3140 : BitVec 32 := Scalar.remsi v3042 v3139
  let c0_i32_1932 : BitVec 32 := 0#32
  let v3142 : BitVec 1 := Scalar.cmpi .slt v3140 c0_i32_1932
  let c0_i32_1933 : BitVec 32 := 0#32
  let v3143 : BitVec 1 := Scalar.cmpi .slt v3139 c0_i32_1933
  let v3144 : BitVec 1 := Scalar.xori v3142 v3143
  let c0_i32_1931 : BitVec 32 := 0#32
  let v3141 : BitVec 1 := Scalar.cmpi .ne v3140 c0_i32_1931
  let v3145 : BitVec 1 := Scalar.andi v3144 v3141
  let v3146 : BitVec 32 := Scalar.addi v3140 v3139
  let v3147 : BitVec 32 := Scalar.select v3145 v3146 v3140
  let c128_i32_1934 : BitVec 32 := 128#32
  let v3148 : BitVec 32 := Scalar.muli v3147 c128_i32_1934
  v3148
def k0_mult23 (k0_t1 : Fin k0_t1_loop.trips) : BitVec 32 :=
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let c0_i32_1875 : BitVec 32 := 0#32
  let v3042 : BitVec 32 := Scalar.addi v3041 c0_i32_1875
  let c16_i32_1928 : BitVec 32 := 16#32
  let c0_i32_1929 : BitVec 32 := 0#32
  let v3138 : BitVec 1 := Scalar.cmpi .eq c16_i32_1928 c0_i32_1929
  let c1_i32_1930 : BitVec 32 := 1#32
  let v3139 : BitVec 32 := Scalar.select v3138 c1_i32_1930 c16_i32_1928
  let v3140 : BitVec 32 := Scalar.remsi v3042 v3139
  let c0_i32_1932 : BitVec 32 := 0#32
  let v3142 : BitVec 1 := Scalar.cmpi .slt v3140 c0_i32_1932
  let c0_i32_1933 : BitVec 32 := 0#32
  let v3143 : BitVec 1 := Scalar.cmpi .slt v3139 c0_i32_1933
  let v3144 : BitVec 1 := Scalar.xori v3142 v3143
  let c0_i32_1931 : BitVec 32 := 0#32
  let v3141 : BitVec 1 := Scalar.cmpi .ne v3140 c0_i32_1931
  let v3145 : BitVec 1 := Scalar.andi v3144 v3141
  let v3146 : BitVec 32 := Scalar.addi v3140 v3139
  let v3147 : BitVec 32 := Scalar.select v3145 v3146 v3140
  let c1_i32_1935 : BitVec 32 := 1#32
  let v3150 : BitVec 32 := Scalar.subi v3147 c1_i32_1935
  let c0_i32_1936 : BitVec 32 := 0#32
  let v3151 : BitVec 32 := Scalar.maxsi v3150 c0_i32_1936
  let c128_i32_1937 : BitVec 32 := 128#32
  let v3152 : BitVec 32 := Scalar.muli v3151 c128_i32_1937
  v3152
def k0_off17 (k0_t1 : Fin k0_t1_loop.trips) (c0_i32_1875 : BitVec 32) : Fin 4 → Nat :=
  let c0_1941 : Index := 0#32
  let c0_1942 : Index := 0#32
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let v3042 : BitVec 32 := Scalar.addi v3041 c0_i32_1875
  let c16_i32_1928 : BitVec 32 := 16#32
  let c0_i32_1929 : BitVec 32 := 0#32
  let v3138 : BitVec 1 := Scalar.cmpi .eq c16_i32_1928 c0_i32_1929
  let c1_i32_1930 : BitVec 32 := 1#32
  let v3139 : BitVec 32 := Scalar.select v3138 c1_i32_1930 c16_i32_1928
  let v3140 : BitVec 32 := Scalar.remsi v3042 v3139
  let c0_i32_1932 : BitVec 32 := 0#32
  let v3142 : BitVec 1 := Scalar.cmpi .slt v3140 c0_i32_1932
  let c0_i32_1933 : BitVec 32 := 0#32
  let v3143 : BitVec 1 := Scalar.cmpi .slt v3139 c0_i32_1933
  let v3144 : BitVec 1 := Scalar.xori v3142 v3143
  let c0_i32_1931 : BitVec 32 := 0#32
  let v3141 : BitVec 1 := Scalar.cmpi .ne v3140 c0_i32_1931
  let v3145 : BitVec 1 := Scalar.andi v3144 v3141
  let v3146 : BitVec 32 := Scalar.addi v3140 v3139
  let v3147 : BitVec 32 := Scalar.select v3145 v3146 v3140
  let c1_i32_1935 : BitVec 32 := 1#32
  let v3150 : BitVec 32 := Scalar.subi v3147 c1_i32_1935
  let c0_i32_1936 : BitVec 32 := 0#32
  let v3151 : BitVec 32 := Scalar.maxsi v3150 c0_i32_1936
  let c128_i32_1937 : BitVec 32 := 128#32
  let v3152 : BitVec 32 := Scalar.muli v3151 c128_i32_1937
  let v3153 : BitVec 32 := v3152
  let v3157 : Index := Scalar.indexCast v3153
  let c128_1943 : Index := 128#32
  ![0, 0, v3157.toNat, 128]
def k0_off18 (k0_t1 : Fin k0_t1_loop.trips) (c0_i32_1875 : BitVec 32) : Fin 4 → Nat :=
  let c0_1953 : Index := 0#32
  let c0_1954 : Index := 0#32
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let v3042 : BitVec 32 := Scalar.addi v3041 c0_i32_1875
  let c16_i32_1876 : BitVec 32 := 16#32
  let c0_i32_1877 : BitVec 32 := 0#32
  let v3043 : BitVec 1 := Scalar.cmpi .eq c16_i32_1876 c0_i32_1877
  let c1_i32_1878 : BitVec 32 := 1#32
  let v3044 : BitVec 32 := Scalar.select v3043 c1_i32_1878 c16_i32_1876
  let v3045 : BitVec 32 := Scalar.remsi v3042 v3044
  let c0_i32_1880 : BitVec 32 := 0#32
  let v3047 : BitVec 1 := Scalar.cmpi .slt v3045 c0_i32_1880
  let c0_i32_1881 : BitVec 32 := 0#32
  let v3048 : BitVec 1 := Scalar.cmpi .slt v3044 c0_i32_1881
  let v3049 : BitVec 1 := Scalar.xori v3047 v3048
  let c0_i32_1879 : BitVec 32 := 0#32
  let v3046 : BitVec 1 := Scalar.cmpi .ne v3045 c0_i32_1879
  let v3050 : BitVec 1 := Scalar.andi v3049 v3046
  let v3051 : BitVec 32 := Scalar.addi v3045 v3044
  let v3052 : BitVec 32 := Scalar.select v3050 v3051 v3045
  let c128_i32_1882 : BitVec 32 := 128#32
  let v3053 : BitVec 32 := Scalar.muli v3052 c128_i32_1882
  let v3054 : BitVec 32 := v3053
  let v3172 : Index := Scalar.indexCast v3054
  let c256_1955 : Index := 256#32
  ![0, 0, v3172.toNat, 256]
def k0_mult24 (k0_t1 : Fin k0_t1_loop.trips) : BitVec 32 :=
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let c0_i32_1875 : BitVec 32 := 0#32
  let v3042 : BitVec 32 := Scalar.addi v3041 c0_i32_1875
  let c16_i32_1961 : BitVec 32 := 16#32
  let c0_i32_1962 : BitVec 32 := 0#32
  let v3192 : BitVec 1 := Scalar.cmpi .eq c16_i32_1961 c0_i32_1962
  let c1_i32_1963 : BitVec 32 := 1#32
  let v3193 : BitVec 32 := Scalar.select v3192 c1_i32_1963 c16_i32_1961
  let v3194 : BitVec 32 := Scalar.remsi v3042 v3193
  let c0_i32_1965 : BitVec 32 := 0#32
  let v3196 : BitVec 1 := Scalar.cmpi .slt v3194 c0_i32_1965
  let c0_i32_1966 : BitVec 32 := 0#32
  let v3197 : BitVec 1 := Scalar.cmpi .slt v3193 c0_i32_1966
  let v3198 : BitVec 1 := Scalar.xori v3196 v3197
  let c0_i32_1964 : BitVec 32 := 0#32
  let v3195 : BitVec 1 := Scalar.cmpi .ne v3194 c0_i32_1964
  let v3199 : BitVec 1 := Scalar.andi v3198 v3195
  let v3200 : BitVec 32 := Scalar.addi v3194 v3193
  let v3201 : BitVec 32 := Scalar.select v3199 v3200 v3194
  let c128_i32_1967 : BitVec 32 := 128#32
  let v3202 : BitVec 32 := Scalar.muli v3201 c128_i32_1967
  v3202
def k0_mult25 (k0_t1 : Fin k0_t1_loop.trips) : BitVec 32 :=
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let c0_i32_1875 : BitVec 32 := 0#32
  let v3042 : BitVec 32 := Scalar.addi v3041 c0_i32_1875
  let c16_i32_1961 : BitVec 32 := 16#32
  let c0_i32_1962 : BitVec 32 := 0#32
  let v3192 : BitVec 1 := Scalar.cmpi .eq c16_i32_1961 c0_i32_1962
  let c1_i32_1963 : BitVec 32 := 1#32
  let v3193 : BitVec 32 := Scalar.select v3192 c1_i32_1963 c16_i32_1961
  let v3194 : BitVec 32 := Scalar.remsi v3042 v3193
  let c0_i32_1965 : BitVec 32 := 0#32
  let v3196 : BitVec 1 := Scalar.cmpi .slt v3194 c0_i32_1965
  let c0_i32_1966 : BitVec 32 := 0#32
  let v3197 : BitVec 1 := Scalar.cmpi .slt v3193 c0_i32_1966
  let v3198 : BitVec 1 := Scalar.xori v3196 v3197
  let c0_i32_1964 : BitVec 32 := 0#32
  let v3195 : BitVec 1 := Scalar.cmpi .ne v3194 c0_i32_1964
  let v3199 : BitVec 1 := Scalar.andi v3198 v3195
  let v3200 : BitVec 32 := Scalar.addi v3194 v3193
  let v3201 : BitVec 32 := Scalar.select v3199 v3200 v3194
  let c1_i32_1968 : BitVec 32 := 1#32
  let v3204 : BitVec 32 := Scalar.subi v3201 c1_i32_1968
  let c0_i32_1969 : BitVec 32 := 0#32
  let v3205 : BitVec 32 := Scalar.maxsi v3204 c0_i32_1969
  let c128_i32_1970 : BitVec 32 := 128#32
  let v3206 : BitVec 32 := Scalar.muli v3205 c128_i32_1970
  v3206
def k0_off19 (k0_t1 : Fin k0_t1_loop.trips) (c0_i32_1875 : BitVec 32) : Fin 4 → Nat :=
  let c0_1974 : Index := 0#32
  let c0_1975 : Index := 0#32
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let v3042 : BitVec 32 := Scalar.addi v3041 c0_i32_1875
  let c16_i32_1961 : BitVec 32 := 16#32
  let c0_i32_1962 : BitVec 32 := 0#32
  let v3192 : BitVec 1 := Scalar.cmpi .eq c16_i32_1961 c0_i32_1962
  let c1_i32_1963 : BitVec 32 := 1#32
  let v3193 : BitVec 32 := Scalar.select v3192 c1_i32_1963 c16_i32_1961
  let v3194 : BitVec 32 := Scalar.remsi v3042 v3193
  let c0_i32_1965 : BitVec 32 := 0#32
  let v3196 : BitVec 1 := Scalar.cmpi .slt v3194 c0_i32_1965
  let c0_i32_1966 : BitVec 32 := 0#32
  let v3197 : BitVec 1 := Scalar.cmpi .slt v3193 c0_i32_1966
  let v3198 : BitVec 1 := Scalar.xori v3196 v3197
  let c0_i32_1964 : BitVec 32 := 0#32
  let v3195 : BitVec 1 := Scalar.cmpi .ne v3194 c0_i32_1964
  let v3199 : BitVec 1 := Scalar.andi v3198 v3195
  let v3200 : BitVec 32 := Scalar.addi v3194 v3193
  let v3201 : BitVec 32 := Scalar.select v3199 v3200 v3194
  let c1_i32_1968 : BitVec 32 := 1#32
  let v3204 : BitVec 32 := Scalar.subi v3201 c1_i32_1968
  let c0_i32_1969 : BitVec 32 := 0#32
  let v3205 : BitVec 32 := Scalar.maxsi v3204 c0_i32_1969
  let c128_i32_1970 : BitVec 32 := 128#32
  let v3206 : BitVec 32 := Scalar.muli v3205 c128_i32_1970
  let v3207 : BitVec 32 := v3206
  let v3211 : Index := Scalar.indexCast v3207
  let c256_1976 : Index := 256#32
  ![0, 0, v3211.toNat, 256]
def k0_off20 (k0_t1 : Fin k0_t1_loop.trips) (c0_i32_1875 : BitVec 32) : Fin 4 → Nat :=
  let c0_1986 : Index := 0#32
  let c0_1987 : Index := 0#32
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let v3042 : BitVec 32 := Scalar.addi v3041 c0_i32_1875
  let c16_i32_1876 : BitVec 32 := 16#32
  let c0_i32_1877 : BitVec 32 := 0#32
  let v3043 : BitVec 1 := Scalar.cmpi .eq c16_i32_1876 c0_i32_1877
  let c1_i32_1878 : BitVec 32 := 1#32
  let v3044 : BitVec 32 := Scalar.select v3043 c1_i32_1878 c16_i32_1876
  let v3045 : BitVec 32 := Scalar.remsi v3042 v3044
  let c0_i32_1880 : BitVec 32 := 0#32
  let v3047 : BitVec 1 := Scalar.cmpi .slt v3045 c0_i32_1880
  let c0_i32_1881 : BitVec 32 := 0#32
  let v3048 : BitVec 1 := Scalar.cmpi .slt v3044 c0_i32_1881
  let v3049 : BitVec 1 := Scalar.xori v3047 v3048
  let c0_i32_1879 : BitVec 32 := 0#32
  let v3046 : BitVec 1 := Scalar.cmpi .ne v3045 c0_i32_1879
  let v3050 : BitVec 1 := Scalar.andi v3049 v3046
  let v3051 : BitVec 32 := Scalar.addi v3045 v3044
  let v3052 : BitVec 32 := Scalar.select v3050 v3051 v3045
  let c128_i32_1882 : BitVec 32 := 128#32
  let v3053 : BitVec 32 := Scalar.muli v3052 c128_i32_1882
  let v3054 : BitVec 32 := v3053
  let v3226 : Index := Scalar.indexCast v3054
  let c384_1988 : Index := 384#32
  ![0, 0, v3226.toNat, 384]
def k0_mult26 (k0_t1 : Fin k0_t1_loop.trips) : BitVec 32 :=
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let c0_i32_1875 : BitVec 32 := 0#32
  let v3042 : BitVec 32 := Scalar.addi v3041 c0_i32_1875
  let c16_i32_1994 : BitVec 32 := 16#32
  let c0_i32_1995 : BitVec 32 := 0#32
  let v3246 : BitVec 1 := Scalar.cmpi .eq c16_i32_1994 c0_i32_1995
  let c1_i32_1996 : BitVec 32 := 1#32
  let v3247 : BitVec 32 := Scalar.select v3246 c1_i32_1996 c16_i32_1994
  let v3248 : BitVec 32 := Scalar.remsi v3042 v3247
  let c0_i32_1998 : BitVec 32 := 0#32
  let v3250 : BitVec 1 := Scalar.cmpi .slt v3248 c0_i32_1998
  let c0_i32_1999 : BitVec 32 := 0#32
  let v3251 : BitVec 1 := Scalar.cmpi .slt v3247 c0_i32_1999
  let v3252 : BitVec 1 := Scalar.xori v3250 v3251
  let c0_i32_1997 : BitVec 32 := 0#32
  let v3249 : BitVec 1 := Scalar.cmpi .ne v3248 c0_i32_1997
  let v3253 : BitVec 1 := Scalar.andi v3252 v3249
  let v3254 : BitVec 32 := Scalar.addi v3248 v3247
  let v3255 : BitVec 32 := Scalar.select v3253 v3254 v3248
  let c128_i32_2000 : BitVec 32 := 128#32
  let v3256 : BitVec 32 := Scalar.muli v3255 c128_i32_2000
  v3256
def k0_mult27 (k0_t1 : Fin k0_t1_loop.trips) : BitVec 32 :=
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let c0_i32_1875 : BitVec 32 := 0#32
  let v3042 : BitVec 32 := Scalar.addi v3041 c0_i32_1875
  let c16_i32_1994 : BitVec 32 := 16#32
  let c0_i32_1995 : BitVec 32 := 0#32
  let v3246 : BitVec 1 := Scalar.cmpi .eq c16_i32_1994 c0_i32_1995
  let c1_i32_1996 : BitVec 32 := 1#32
  let v3247 : BitVec 32 := Scalar.select v3246 c1_i32_1996 c16_i32_1994
  let v3248 : BitVec 32 := Scalar.remsi v3042 v3247
  let c0_i32_1998 : BitVec 32 := 0#32
  let v3250 : BitVec 1 := Scalar.cmpi .slt v3248 c0_i32_1998
  let c0_i32_1999 : BitVec 32 := 0#32
  let v3251 : BitVec 1 := Scalar.cmpi .slt v3247 c0_i32_1999
  let v3252 : BitVec 1 := Scalar.xori v3250 v3251
  let c0_i32_1997 : BitVec 32 := 0#32
  let v3249 : BitVec 1 := Scalar.cmpi .ne v3248 c0_i32_1997
  let v3253 : BitVec 1 := Scalar.andi v3252 v3249
  let v3254 : BitVec 32 := Scalar.addi v3248 v3247
  let v3255 : BitVec 32 := Scalar.select v3253 v3254 v3248
  let c1_i32_2001 : BitVec 32 := 1#32
  let v3258 : BitVec 32 := Scalar.subi v3255 c1_i32_2001
  let c0_i32_2002 : BitVec 32 := 0#32
  let v3259 : BitVec 32 := Scalar.maxsi v3258 c0_i32_2002
  let c128_i32_2003 : BitVec 32 := 128#32
  let v3260 : BitVec 32 := Scalar.muli v3259 c128_i32_2003
  v3260
def k0_off21 (k0_t1 : Fin k0_t1_loop.trips) (c0_i32_1875 : BitVec 32) : Fin 4 → Nat :=
  let c0_2007 : Index := 0#32
  let c0_2008 : Index := 0#32
  let c2_i32_1874 : BitVec 32 := 2#32
  let c3_i32_1025 : BitVec 32 := 3#32
  let c1_i32_1027 : BitVec 32 := 1#32
  let arg14 : BitVec 32 := Scf.iv c3_i32_1025 c1_i32_1027 k0_t1
  let v3041 : BitVec 32 := Scalar.muli c2_i32_1874 arg14
  let v3042 : BitVec 32 := Scalar.addi v3041 c0_i32_1875
  let c16_i32_1994 : BitVec 32 := 16#32
  let c0_i32_1995 : BitVec 32 := 0#32
  let v3246 : BitVec 1 := Scalar.cmpi .eq c16_i32_1994 c0_i32_1995
  let c1_i32_1996 : BitVec 32 := 1#32
  let v3247 : BitVec 32 := Scalar.select v3246 c1_i32_1996 c16_i32_1994
  let v3248 : BitVec 32 := Scalar.remsi v3042 v3247
  let c0_i32_1998 : BitVec 32 := 0#32
  let v3250 : BitVec 1 := Scalar.cmpi .slt v3248 c0_i32_1998
  let c0_i32_1999 : BitVec 32 := 0#32
  let v3251 : BitVec 1 := Scalar.cmpi .slt v3247 c0_i32_1999
  let v3252 : BitVec 1 := Scalar.xori v3250 v3251
  let c0_i32_1997 : BitVec 32 := 0#32
  let v3249 : BitVec 1 := Scalar.cmpi .ne v3248 c0_i32_1997
  let v3253 : BitVec 1 := Scalar.andi v3252 v3249
  let v3254 : BitVec 32 := Scalar.addi v3248 v3247
  let v3255 : BitVec 32 := Scalar.select v3253 v3254 v3248
  let c1_i32_2001 : BitVec 32 := 1#32
  let v3258 : BitVec 32 := Scalar.subi v3255 c1_i32_2001
  let c0_i32_2002 : BitVec 32 := 0#32
  let v3259 : BitVec 32 := Scalar.maxsi v3258 c0_i32_2002
  let c128_i32_2003 : BitVec 32 := 128#32
  let v3260 : BitVec 32 := Scalar.muli v3259 c128_i32_2003
  let v3261 : BitVec 32 := v3260
  let v3265 : Index := Scalar.indexCast v3261
  let c384_2009 : Index := 384#32
  ![0, 0, v3265.toNat, 384]
def k0_mult28 (k0_t1 : Fin k0_t1_loop.trips) : BitVec 32 :=
  let c2_i32_2019 : BitVec 32 := 2#32
  let c3_i32_1025 : BitVec 32 := 3#32
  let c1_i32_1027 : BitVec 32 := 1#32
  let arg14 : BitVec 32 := Scf.iv c3_i32_1025 c1_i32_1027 k0_t1
  let v3280 : BitVec 32 := Scalar.muli c2_i32_2019 arg14
  let c1_i32_2020 : BitVec 32 := 1#32
  let v3281 : BitVec 32 := Scalar.addi v3280 c1_i32_2020
  let c16_i32_2021 : BitVec 32 := 16#32
  let c0_i32_2022 : BitVec 32 := 0#32
  let v3282 : BitVec 1 := Scalar.cmpi .eq c16_i32_2021 c0_i32_2022
  let c1_i32_2023 : BitVec 32 := 1#32
  let v3283 : BitVec 32 := Scalar.select v3282 c1_i32_2023 c16_i32_2021
  let v3284 : BitVec 32 := Scalar.remsi v3281 v3283
  let c0_i32_2025 : BitVec 32 := 0#32
  let v3286 : BitVec 1 := Scalar.cmpi .slt v3284 c0_i32_2025
  let c0_i32_2026 : BitVec 32 := 0#32
  let v3287 : BitVec 1 := Scalar.cmpi .slt v3283 c0_i32_2026
  let v3288 : BitVec 1 := Scalar.xori v3286 v3287
  let c0_i32_2024 : BitVec 32 := 0#32
  let v3285 : BitVec 1 := Scalar.cmpi .ne v3284 c0_i32_2024
  let v3289 : BitVec 1 := Scalar.andi v3288 v3285
  let v3290 : BitVec 32 := Scalar.addi v3284 v3283
  let v3291 : BitVec 32 := Scalar.select v3289 v3290 v3284
  let c128_i32_2027 : BitVec 32 := 128#32
  let v3292 : BitVec 32 := Scalar.muli v3291 c128_i32_2027
  v3292
def k0_mult29 (k0_t1 : Fin k0_t1_loop.trips) : BitVec 32 :=
  let c2_i32_2019 : BitVec 32 := 2#32
  let c3_i32_1025 : BitVec 32 := 3#32
  let c1_i32_1027 : BitVec 32 := 1#32
  let arg14 : BitVec 32 := Scf.iv c3_i32_1025 c1_i32_1027 k0_t1
  let v3280 : BitVec 32 := Scalar.muli c2_i32_2019 arg14
  let c1_i32_2020 : BitVec 32 := 1#32
  let v3281 : BitVec 32 := Scalar.addi v3280 c1_i32_2020
  let c16_i32_2040 : BitVec 32 := 16#32
  let c0_i32_2041 : BitVec 32 := 0#32
  let v3323 : BitVec 1 := Scalar.cmpi .eq c16_i32_2040 c0_i32_2041
  let c1_i32_2042 : BitVec 32 := 1#32
  let v3324 : BitVec 32 := Scalar.select v3323 c1_i32_2042 c16_i32_2040
  let v3325 : BitVec 32 := Scalar.remsi v3281 v3324
  let c0_i32_2044 : BitVec 32 := 0#32
  let v3327 : BitVec 1 := Scalar.cmpi .slt v3325 c0_i32_2044
  let c0_i32_2045 : BitVec 32 := 0#32
  let v3328 : BitVec 1 := Scalar.cmpi .slt v3324 c0_i32_2045
  let v3329 : BitVec 1 := Scalar.xori v3327 v3328
  let c0_i32_2043 : BitVec 32 := 0#32
  let v3326 : BitVec 1 := Scalar.cmpi .ne v3325 c0_i32_2043
  let v3330 : BitVec 1 := Scalar.andi v3329 v3326
  let v3331 : BitVec 32 := Scalar.addi v3325 v3324
  let v3332 : BitVec 32 := Scalar.select v3330 v3331 v3325
  let c128_i32_2046 : BitVec 32 := 128#32
  let v3333 : BitVec 32 := Scalar.muli v3332 c128_i32_2046
  v3333
def k0_mult30 (k0_t1 : Fin k0_t1_loop.trips) : BitVec 32 :=
  let c2_i32_2019 : BitVec 32 := 2#32
  let c3_i32_1025 : BitVec 32 := 3#32
  let c1_i32_1027 : BitVec 32 := 1#32
  let arg14 : BitVec 32 := Scf.iv c3_i32_1025 c1_i32_1027 k0_t1
  let v3280 : BitVec 32 := Scalar.muli c2_i32_2019 arg14
  let c1_i32_2020 : BitVec 32 := 1#32
  let v3281 : BitVec 32 := Scalar.addi v3280 c1_i32_2020
  let c16_i32_2040 : BitVec 32 := 16#32
  let c0_i32_2041 : BitVec 32 := 0#32
  let v3323 : BitVec 1 := Scalar.cmpi .eq c16_i32_2040 c0_i32_2041
  let c1_i32_2042 : BitVec 32 := 1#32
  let v3324 : BitVec 32 := Scalar.select v3323 c1_i32_2042 c16_i32_2040
  let v3325 : BitVec 32 := Scalar.remsi v3281 v3324
  let c0_i32_2044 : BitVec 32 := 0#32
  let v3327 : BitVec 1 := Scalar.cmpi .slt v3325 c0_i32_2044
  let c0_i32_2045 : BitVec 32 := 0#32
  let v3328 : BitVec 1 := Scalar.cmpi .slt v3324 c0_i32_2045
  let v3329 : BitVec 1 := Scalar.xori v3327 v3328
  let c0_i32_2043 : BitVec 32 := 0#32
  let v3326 : BitVec 1 := Scalar.cmpi .ne v3325 c0_i32_2043
  let v3330 : BitVec 1 := Scalar.andi v3329 v3326
  let v3331 : BitVec 32 := Scalar.addi v3325 v3324
  let v3332 : BitVec 32 := Scalar.select v3330 v3331 v3325
  let c1_i32_2047 : BitVec 32 := 1#32
  let v3335 : BitVec 32 := Scalar.subi v3332 c1_i32_2047
  let c0_i32_2048 : BitVec 32 := 0#32
  let v3336 : BitVec 32 := Scalar.maxsi v3335 c0_i32_2048
  let c128_i32_2049 : BitVec 32 := 128#32
  let v3337 : BitVec 32 := Scalar.muli v3336 c128_i32_2049
  v3337
def k0_mult31 (k0_t1 : Fin k0_t1_loop.trips) : BitVec 32 :=
  let c2_i32_2019 : BitVec 32 := 2#32
  let c3_i32_1025 : BitVec 32 := 3#32
  let c1_i32_1027 : BitVec 32 := 1#32
  let arg14 : BitVec 32 := Scf.iv c3_i32_1025 c1_i32_1027 k0_t1
  let v3280 : BitVec 32 := Scalar.muli c2_i32_2019 arg14
  let c1_i32_2020 : BitVec 32 := 1#32
  let v3281 : BitVec 32 := Scalar.addi v3280 c1_i32_2020
  let c16_i32_2073 : BitVec 32 := 16#32
  let c0_i32_2074 : BitVec 32 := 0#32
  let v3377 : BitVec 1 := Scalar.cmpi .eq c16_i32_2073 c0_i32_2074
  let c1_i32_2075 : BitVec 32 := 1#32
  let v3378 : BitVec 32 := Scalar.select v3377 c1_i32_2075 c16_i32_2073
  let v3379 : BitVec 32 := Scalar.remsi v3281 v3378
  let c0_i32_2077 : BitVec 32 := 0#32
  let v3381 : BitVec 1 := Scalar.cmpi .slt v3379 c0_i32_2077
  let c0_i32_2078 : BitVec 32 := 0#32
  let v3382 : BitVec 1 := Scalar.cmpi .slt v3378 c0_i32_2078
  let v3383 : BitVec 1 := Scalar.xori v3381 v3382
  let c0_i32_2076 : BitVec 32 := 0#32
  let v3380 : BitVec 1 := Scalar.cmpi .ne v3379 c0_i32_2076
  let v3384 : BitVec 1 := Scalar.andi v3383 v3380
  let v3385 : BitVec 32 := Scalar.addi v3379 v3378
  let v3386 : BitVec 32 := Scalar.select v3384 v3385 v3379
  let c128_i32_2079 : BitVec 32 := 128#32
  let v3387 : BitVec 32 := Scalar.muli v3386 c128_i32_2079
  v3387
def k0_mult32 (k0_t1 : Fin k0_t1_loop.trips) : BitVec 32 :=
  let c2_i32_2019 : BitVec 32 := 2#32
  let c3_i32_1025 : BitVec 32 := 3#32
  let c1_i32_1027 : BitVec 32 := 1#32
  let arg14 : BitVec 32 := Scf.iv c3_i32_1025 c1_i32_1027 k0_t1
  let v3280 : BitVec 32 := Scalar.muli c2_i32_2019 arg14
  let c1_i32_2020 : BitVec 32 := 1#32
  let v3281 : BitVec 32 := Scalar.addi v3280 c1_i32_2020
  let c16_i32_2073 : BitVec 32 := 16#32
  let c0_i32_2074 : BitVec 32 := 0#32
  let v3377 : BitVec 1 := Scalar.cmpi .eq c16_i32_2073 c0_i32_2074
  let c1_i32_2075 : BitVec 32 := 1#32
  let v3378 : BitVec 32 := Scalar.select v3377 c1_i32_2075 c16_i32_2073
  let v3379 : BitVec 32 := Scalar.remsi v3281 v3378
  let c0_i32_2077 : BitVec 32 := 0#32
  let v3381 : BitVec 1 := Scalar.cmpi .slt v3379 c0_i32_2077
  let c0_i32_2078 : BitVec 32 := 0#32
  let v3382 : BitVec 1 := Scalar.cmpi .slt v3378 c0_i32_2078
  let v3383 : BitVec 1 := Scalar.xori v3381 v3382
  let c0_i32_2076 : BitVec 32 := 0#32
  let v3380 : BitVec 1 := Scalar.cmpi .ne v3379 c0_i32_2076
  let v3384 : BitVec 1 := Scalar.andi v3383 v3380
  let v3385 : BitVec 32 := Scalar.addi v3379 v3378
  let v3386 : BitVec 32 := Scalar.select v3384 v3385 v3379
  let c1_i32_2080 : BitVec 32 := 1#32
  let v3389 : BitVec 32 := Scalar.subi v3386 c1_i32_2080
  let c0_i32_2081 : BitVec 32 := 0#32
  let v3390 : BitVec 32 := Scalar.maxsi v3389 c0_i32_2081
  let c128_i32_2082 : BitVec 32 := 128#32
  let v3391 : BitVec 32 := Scalar.muli v3390 c128_i32_2082
  v3391
def k0_mult33 (k0_t1 : Fin k0_t1_loop.trips) : BitVec 32 :=
  let c2_i32_2019 : BitVec 32 := 2#32
  let c3_i32_1025 : BitVec 32 := 3#32
  let c1_i32_1027 : BitVec 32 := 1#32
  let arg14 : BitVec 32 := Scf.iv c3_i32_1025 c1_i32_1027 k0_t1
  let v3280 : BitVec 32 := Scalar.muli c2_i32_2019 arg14
  let c1_i32_2020 : BitVec 32 := 1#32
  let v3281 : BitVec 32 := Scalar.addi v3280 c1_i32_2020
  let c16_i32_2106 : BitVec 32 := 16#32
  let c0_i32_2107 : BitVec 32 := 0#32
  let v3431 : BitVec 1 := Scalar.cmpi .eq c16_i32_2106 c0_i32_2107
  let c1_i32_2108 : BitVec 32 := 1#32
  let v3432 : BitVec 32 := Scalar.select v3431 c1_i32_2108 c16_i32_2106
  let v3433 : BitVec 32 := Scalar.remsi v3281 v3432
  let c0_i32_2110 : BitVec 32 := 0#32
  let v3435 : BitVec 1 := Scalar.cmpi .slt v3433 c0_i32_2110
  let c0_i32_2111 : BitVec 32 := 0#32
  let v3436 : BitVec 1 := Scalar.cmpi .slt v3432 c0_i32_2111
  let v3437 : BitVec 1 := Scalar.xori v3435 v3436
  let c0_i32_2109 : BitVec 32 := 0#32
  let v3434 : BitVec 1 := Scalar.cmpi .ne v3433 c0_i32_2109
  let v3438 : BitVec 1 := Scalar.andi v3437 v3434
  let v3439 : BitVec 32 := Scalar.addi v3433 v3432
  let v3440 : BitVec 32 := Scalar.select v3438 v3439 v3433
  let c128_i32_2112 : BitVec 32 := 128#32
  let v3441 : BitVec 32 := Scalar.muli v3440 c128_i32_2112
  v3441
def k0_mult34 (k0_t1 : Fin k0_t1_loop.trips) : BitVec 32 :=
  let c2_i32_2019 : BitVec 32 := 2#32
  let c3_i32_1025 : BitVec 32 := 3#32
  let c1_i32_1027 : BitVec 32 := 1#32
  let arg14 : BitVec 32 := Scf.iv c3_i32_1025 c1_i32_1027 k0_t1
  let v3280 : BitVec 32 := Scalar.muli c2_i32_2019 arg14
  let c1_i32_2020 : BitVec 32 := 1#32
  let v3281 : BitVec 32 := Scalar.addi v3280 c1_i32_2020
  let c16_i32_2106 : BitVec 32 := 16#32
  let c0_i32_2107 : BitVec 32 := 0#32
  let v3431 : BitVec 1 := Scalar.cmpi .eq c16_i32_2106 c0_i32_2107
  let c1_i32_2108 : BitVec 32 := 1#32
  let v3432 : BitVec 32 := Scalar.select v3431 c1_i32_2108 c16_i32_2106
  let v3433 : BitVec 32 := Scalar.remsi v3281 v3432
  let c0_i32_2110 : BitVec 32 := 0#32
  let v3435 : BitVec 1 := Scalar.cmpi .slt v3433 c0_i32_2110
  let c0_i32_2111 : BitVec 32 := 0#32
  let v3436 : BitVec 1 := Scalar.cmpi .slt v3432 c0_i32_2111
  let v3437 : BitVec 1 := Scalar.xori v3435 v3436
  let c0_i32_2109 : BitVec 32 := 0#32
  let v3434 : BitVec 1 := Scalar.cmpi .ne v3433 c0_i32_2109
  let v3438 : BitVec 1 := Scalar.andi v3437 v3434
  let v3439 : BitVec 32 := Scalar.addi v3433 v3432
  let v3440 : BitVec 32 := Scalar.select v3438 v3439 v3433
  let c1_i32_2113 : BitVec 32 := 1#32
  let v3443 : BitVec 32 := Scalar.subi v3440 c1_i32_2113
  let c0_i32_2114 : BitVec 32 := 0#32
  let v3444 : BitVec 32 := Scalar.maxsi v3443 c0_i32_2114
  let c128_i32_2115 : BitVec 32 := 128#32
  let v3445 : BitVec 32 := Scalar.muli v3444 c128_i32_2115
  v3445
def k0_mult35 (k0_t1 : Fin k0_t1_loop.trips) : BitVec 32 :=
  let c2_i32_2019 : BitVec 32 := 2#32
  let c3_i32_1025 : BitVec 32 := 3#32
  let c1_i32_1027 : BitVec 32 := 1#32
  let arg14 : BitVec 32 := Scf.iv c3_i32_1025 c1_i32_1027 k0_t1
  let v3280 : BitVec 32 := Scalar.muli c2_i32_2019 arg14
  let c1_i32_2020 : BitVec 32 := 1#32
  let v3281 : BitVec 32 := Scalar.addi v3280 c1_i32_2020
  let c16_i32_2139 : BitVec 32 := 16#32
  let c0_i32_2140 : BitVec 32 := 0#32
  let v3485 : BitVec 1 := Scalar.cmpi .eq c16_i32_2139 c0_i32_2140
  let c1_i32_2141 : BitVec 32 := 1#32
  let v3486 : BitVec 32 := Scalar.select v3485 c1_i32_2141 c16_i32_2139
  let v3487 : BitVec 32 := Scalar.remsi v3281 v3486
  let c0_i32_2143 : BitVec 32 := 0#32
  let v3489 : BitVec 1 := Scalar.cmpi .slt v3487 c0_i32_2143
  let c0_i32_2144 : BitVec 32 := 0#32
  let v3490 : BitVec 1 := Scalar.cmpi .slt v3486 c0_i32_2144
  let v3491 : BitVec 1 := Scalar.xori v3489 v3490
  let c0_i32_2142 : BitVec 32 := 0#32
  let v3488 : BitVec 1 := Scalar.cmpi .ne v3487 c0_i32_2142
  let v3492 : BitVec 1 := Scalar.andi v3491 v3488
  let v3493 : BitVec 32 := Scalar.addi v3487 v3486
  let v3494 : BitVec 32 := Scalar.select v3492 v3493 v3487
  let c128_i32_2145 : BitVec 32 := 128#32
  let v3495 : BitVec 32 := Scalar.muli v3494 c128_i32_2145
  v3495
def k0_mult36 (k0_t1 : Fin k0_t1_loop.trips) : BitVec 32 :=
  let c2_i32_2019 : BitVec 32 := 2#32
  let c3_i32_1025 : BitVec 32 := 3#32
  let c1_i32_1027 : BitVec 32 := 1#32
  let arg14 : BitVec 32 := Scf.iv c3_i32_1025 c1_i32_1027 k0_t1
  let v3280 : BitVec 32 := Scalar.muli c2_i32_2019 arg14
  let c1_i32_2020 : BitVec 32 := 1#32
  let v3281 : BitVec 32 := Scalar.addi v3280 c1_i32_2020
  let c16_i32_2139 : BitVec 32 := 16#32
  let c0_i32_2140 : BitVec 32 := 0#32
  let v3485 : BitVec 1 := Scalar.cmpi .eq c16_i32_2139 c0_i32_2140
  let c1_i32_2141 : BitVec 32 := 1#32
  let v3486 : BitVec 32 := Scalar.select v3485 c1_i32_2141 c16_i32_2139
  let v3487 : BitVec 32 := Scalar.remsi v3281 v3486
  let c0_i32_2143 : BitVec 32 := 0#32
  let v3489 : BitVec 1 := Scalar.cmpi .slt v3487 c0_i32_2143
  let c0_i32_2144 : BitVec 32 := 0#32
  let v3490 : BitVec 1 := Scalar.cmpi .slt v3486 c0_i32_2144
  let v3491 : BitVec 1 := Scalar.xori v3489 v3490
  let c0_i32_2142 : BitVec 32 := 0#32
  let v3488 : BitVec 1 := Scalar.cmpi .ne v3487 c0_i32_2142
  let v3492 : BitVec 1 := Scalar.andi v3491 v3488
  let v3493 : BitVec 32 := Scalar.addi v3487 v3486
  let v3494 : BitVec 32 := Scalar.select v3492 v3493 v3487
  let c1_i32_2146 : BitVec 32 := 1#32
  let v3497 : BitVec 32 := Scalar.subi v3494 c1_i32_2146
  let c0_i32_2147 : BitVec 32 := 0#32
  let v3498 : BitVec 32 := Scalar.maxsi v3497 c0_i32_2147
  let c128_i32_2148 : BitVec 32 := 128#32
  let v3499 : BitVec 32 := Scalar.muli v3498 c128_i32_2148
  v3499
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "inv_ln2" => some (((Real.log 2)⁻¹ : ℝ) : EReal)
  | "q_scale" => some (((1 / 8) * (Real.log 2)⁻¹ : ℝ) : EReal)
  | _ => none
-- ==== AttnRefIdeal.lean ====
abbrev S2x1x8192x512 : Shape := ⟨4, ![2, 1, 8192, 512]⟩
abbrev S2x8192x8x64 : Shape := ⟨4, ![2, 8192, 8, 64]⟩
abbrev S2x64x128x8x64 : Shape := ⟨5, ![2, 64, 128, 8, 64]⟩
abbrev S_ : Shape := ⟨0, ![]⟩
abbrev S2x8320x8x64 : Shape := ⟨4, ![2, 8320, 8, 64]⟩
abbrev S2x65x128x8x64 : Shape := ⟨5, ![2, 65, 128, 8, 64]⟩
abbrev S2x64x256x8x64 : Shape := ⟨5, ![2, 64, 256, 8, 64]⟩
abbrev S2x64x8x128x256 : Shape := ⟨5, ![2, 64, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x128x256 : Shape := ⟨5, ![1, 64, 1, 128, 256]⟩
abbrev S2x64x8x128 : Shape := ⟨4, ![2, 64, 8, 128]⟩
abbrev S2x64x8x128x1 : Shape := ⟨5, ![2, 64, 8, 128, 1]⟩
abbrev S2x64x8x64x128 : Shape := ⟨5, ![2, 64, 8, 64, 128]⟩
abbrev S2x64x128x8 : Shape := ⟨4, ![2, 64, 128, 8]⟩
abbrev S2x8192x8 : Shape := ⟨3, ![2, 8192, 8]⟩
abbrev S2x8192x512 : Shape := ⟨3, ![2, 8192, 512]⟩
abbrev S2x8192x128 : Shape := ⟨3, ![2, 8192, 128]⟩

abbrev nBuf : Space → Nat
  | .hbm => 97
  | .vmem => 0
  | .smem => 0
  | _ => 0

abbrev bufTy : (tb : Table) → Fin (tcTables nBuf tb) → BufTy
  | .hbm, ⟨0, _⟩ => ⟨S2x1x8192x512, .bf16⟩
  | .hbm, ⟨1, _⟩ => ⟨S2x1x8192x512, .bf16⟩
  | .hbm, ⟨2, _⟩ => ⟨S2x1x8192x512, .bf16⟩
  | .hbm, ⟨3, _⟩ => ⟨S2x1x8192x512, .f32⟩
  | .hbm, ⟨4, _⟩ => ⟨S2x8192x8x64, .f32⟩
  | .hbm, ⟨5, _⟩ => ⟨S2x1x8192x512, .f32⟩
  | .hbm, ⟨6, _⟩ => ⟨S2x8192x8x64, .f32⟩
  | .hbm, ⟨7, _⟩ => ⟨S2x1x8192x512, .f32⟩
  | .hbm, ⟨8, _⟩ => ⟨S2x8192x8x64, .f32⟩
  | .hbm, ⟨9, _⟩ => ⟨S2x64x128x8x64, .f32⟩
  | .hbm, ⟨10, _⟩ => ⟨S_, .i32⟩
  | .hbm, ⟨11, _⟩ => ⟨S_, .f32⟩
  | .hbm, ⟨12, _⟩ => ⟨S2x8320x8x64, .f32⟩
  | .hbm, ⟨13, _⟩ => ⟨S2x65x128x8x64, .f32⟩
  | .hbm, ⟨14, _⟩ => ⟨S2x64x128x8x64, .f32⟩
  | .hbm, ⟨15, _⟩ => ⟨S2x64x128x8x64, .f32⟩
  | .hbm, ⟨16, _⟩ => ⟨S2x64x256x8x64, .f32⟩
  | .hbm, ⟨17, _⟩ => ⟨S_, .i32⟩
  | .hbm, ⟨18, _⟩ => ⟨S_, .f32⟩
  | .hbm, ⟨19, _⟩ => ⟨S2x8320x8x64, .f32⟩
  | .hbm, ⟨20, _⟩ => ⟨S2x65x128x8x64, .f32⟩
  | .hbm, ⟨21, _⟩ => ⟨S2x64x128x8x64, .f32⟩
  | .hbm, ⟨22, _⟩ => ⟨S2x64x128x8x64, .f32⟩
  | .hbm, ⟨23, _⟩ => ⟨S2x64x256x8x64, .f32⟩
  | .hbm, ⟨24, _⟩ => ⟨S2x64x8x128x256, .f32⟩
  | .hbm, ⟨25, _⟩ => ⟨S_, .f32⟩
  | .hbm, ⟨26, _⟩ => ⟨S2x64x8x128x256, .f32⟩
  | .hbm, ⟨27, _⟩ => ⟨S2x64x8x128x256, .f32⟩
  | .hbm, ⟨28, _⟩ => ⟨S128, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x256, .i32⟩
  | .hbm, ⟨36, _⟩ => ⟨S128x256, .i32⟩
  | .hbm, ⟨37, _⟩ => ⟨S128x256, .i32⟩
  | .hbm, ⟨38, _⟩ => ⟨S64, .i32⟩
  | .hbm, ⟨39, _⟩ => ⟨S64x1x1, .i32⟩
  | .hbm, ⟨40, _⟩ => ⟨S_, .i32⟩
  | .hbm, ⟨41, _⟩ => ⟨S64x1x1, .i32⟩
  | .hbm, ⟨42, _⟩ => ⟨S64x1x1, .i32⟩
  | .hbm, ⟨43, _⟩ => ⟨S1x1x256, .i32⟩
  | .hbm, ⟨44, _⟩ => ⟨S64x1x256, .i32⟩
  | .hbm, ⟨45, _⟩ => ⟨S64x1x256, .i32⟩
  | .hbm, ⟨46, _⟩ => ⟨S64x1x256, .i32⟩
  | .hbm, ⟨47, _⟩ => ⟨S_, .i32⟩
  | .hbm, ⟨48, _⟩ => ⟨S64x1x256, .i32⟩
  | .hbm, ⟨49, _⟩ => ⟨S64x1x256, .i32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S128x256, .i1⟩
  | .hbm, ⟨57, _⟩ => ⟨S_, .i32⟩
  | .hbm, ⟨58, _⟩ => ⟨S64x1x256, .i32⟩
  | .hbm, ⟨59, _⟩ => ⟨S64x1x256, .i1⟩
  | .hbm, ⟨60, _⟩ => ⟨S1x128x256, .i1⟩
  | .hbm, ⟨61, _⟩ => ⟨S64x128x256, .i1⟩
  | .hbm, ⟨62, _⟩ => ⟨S64x128x256, .i1⟩
  | .hbm, ⟨63, _⟩ => ⟨S64x128x256, .i1⟩
  | .hbm, ⟨64, _⟩ => ⟨S1x64x1x128x256, .i1⟩
  | .hbm, ⟨65, _⟩ => ⟨S_, .f32⟩
  | .hbm, ⟨66, _⟩ => ⟨S_, .f32⟩
  | .hbm, ⟨67, _⟩ => ⟨S2x64x8x128x256, .i1⟩
  | .hbm, ⟨68, _⟩ => ⟨S2x64x8x128x256, .f32⟩
  | .hbm, ⟨69, _⟩ => ⟨S2x64x8x128x256, .f32⟩
  | .hbm, ⟨70, _⟩ => ⟨S_, .f32⟩
  | .hbm, ⟨71, _⟩ => ⟨S2x64x8x128, .f32⟩
  | .hbm, ⟨72, _⟩ => ⟨S2x64x8x128x1, .f32⟩
  | .hbm, ⟨73, _⟩ => ⟨S2x64x8x128x256, .f32⟩
  | .hbm, ⟨74, _⟩ => ⟨S2x64x8x128x256, .f32⟩
  | .hbm, ⟨75, _⟩ => ⟨S2x64x8x128x256, .f32⟩
  | .hbm, ⟨76, _⟩ => ⟨S_, .f32⟩
  | .hbm, ⟨77, _⟩ => ⟨S2x64x8x128, .f32⟩
  | .hbm, ⟨78, _⟩ => ⟨S2x64x8x128x1, .f32⟩
  | .hbm, ⟨79, _⟩ => ⟨S2x64x8x128x256, .f32⟩
  | .hbm, ⟨80, _⟩ => ⟨S2x64x8x128x256, .f32⟩
  | .hbm, ⟨81, _⟩ => ⟨S2x64x8x64x128, .f32⟩
  | .hbm, ⟨82, _⟩ => ⟨S2x64x128x8x64, .f32⟩
  | .hbm, ⟨83, _⟩ => ⟨S2x64x8x128, .f32⟩
  | .hbm, ⟨84, _⟩ => ⟨S2x64x8x128, .f32⟩
  | .hbm, ⟨85, _⟩ => ⟨S2x64x128x8, .f32⟩
  | .hbm, ⟨86, _⟩ => ⟨S2x8192x8x64, .f32⟩
  | .hbm, ⟨87, _⟩ => ⟨S2x8192x8, .f32⟩
  | .hbm, ⟨88, _⟩ => ⟨S_, .f32⟩
  | .hbm, ⟨89, _⟩ => ⟨S_, .f32⟩
  | .hbm, ⟨90, _⟩ => ⟨S2x8192x8, .f32⟩
  | .hbm, ⟨91, _⟩ => ⟨S2x8192x8, .f32⟩
  | .hbm, ⟨92, _⟩ => ⟨S2x8192x512, .f32⟩
  | .hbm, ⟨93, _⟩ => ⟨S2x8192x512, .bf16⟩
  | .hbm, ⟨94, _⟩ => ⟨S_, .i32⟩
  | .hbm, ⟨95, _⟩ => ⟨S_, .f32⟩
  | .hbm, ⟨96, _⟩ => ⟨S2x8192x128, .f32⟩
  | _, _ => ⟨S2x1x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_3 : Ref sig .tc := ⟨.hbm, 47, rfl⟩
abbrev main_v37 : Ref sig .tc := ⟨.hbm, 48, rfl⟩
abbrev main_v38 : Ref sig .tc := ⟨.hbm, 49, rfl⟩
abbrev main_c_4 : Ref sig .tc := ⟨.hbm, 50, rfl⟩
abbrev main_v39 : Ref sig .tc := ⟨.hbm, 51, rfl⟩
abbrev main_v40 : Ref sig .tc := ⟨.hbm, 52, rfl⟩
abbrev main_c_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_11 : Ref sig .tc := ⟨.hbm, 94, rfl⟩
abbrev main_call3_v0 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Merge.lean ====
abbrev S16384x1024 : Shape := ⟨2, ![16384, 1024]⟩
abbrev S2x1024 : Shape := ⟨2, ![2, 1024]⟩
abbrev S16384x512 : Shape := ⟨2, ![16384, 512]⟩
abbrev S16384x128 : Shape := ⟨2, ![16384, 128]⟩
abbrev S2x1024x10000 : Shape := ⟨3, ![2, 1024, 10000]⟩
abbrev S2x3x512x1024 : Shape := ⟨4, ![2, 3, 512, 1024]⟩
abbrev S2x1024x1024 : Shape := ⟨3, ![2, 1024, 1024]⟩
abbrev S2x1024x3072 : Shape := ⟨3, ![2, 1024, 3072]⟩
abbrev S2x3072x1024 : Shape := ⟨3, ![2, 3072, 1024]⟩
abbrev S2x64x8x64 : Shape := ⟨4, ![2, 64, 8, 64]⟩
abbrev S128x512 : Shape := ⟨2, ![128, 512]⟩
abbrev S2x1x1024 : Shape := ⟨3, ![2, 1, 1024]⟩
abbrev S512x1024 : Shape := ⟨2, ![512, 1024]⟩
abbrev S1x1x1024 : Shape := ⟨3, ![1, 1, 1024]⟩
abbrev S512x512 : Shape := ⟨2, ![512, 512]⟩
abbrev S512x128 : Shape := ⟨2, ![512, 128]⟩
abbrev S1x3072x1024 : Shape := ⟨3, ![1, 3072, 1024]⟩
abbrev S1x3x512x1024 : Shape := ⟨4, ![1, 3, 512, 1024]⟩
abbrev S1x1024x1024 : Shape := ⟨3, ![1, 1024, 1024]⟩
abbrev S1x1024 : Shape := ⟨2, ![1, 1024]⟩
abbrev S512 : Shape := ⟨1, ![512]⟩
abbrev S512x1 : Shape := ⟨2, ![512, 1]⟩
abbrev S1x128 : Shape := ⟨2, ![1, 128]⟩
abbrev S1024x1024 : Shape := ⟨2, ![1024, 1024]⟩
abbrev S1x1x512x1024 : Shape := ⟨4, ![1, 1, 512, 1024]⟩

abbrev nBuf : Space → Nat
  | .hbm => 25
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S16384x512, .bf16⟩
  | .hbm, ⟨9, _⟩ => ⟨S16384x512, .bf16⟩
  | .hbm, ⟨10, _⟩ => ⟨S2x1024x10000, .f32⟩
  | .hbm, ⟨11, _⟩ => ⟨S2x3x512x1024, .f32⟩
  | .hbm, ⟨12, _⟩ => ⟨S2x1024x1024, .f32⟩
  | .hbm, ⟨13, _⟩ => ⟨S2x1024x3072, .f32⟩
  | .hbm, ⟨14, _⟩ => ⟨S2x3072x1024, .f32⟩
  | .hbm, ⟨15, _⟩ => ⟨S2x3072x1024, .bf16⟩
  | .hbm, ⟨16, _⟩ => ⟨S2x3x512x1024, .bf16⟩
  | .hbm, ⟨17, _⟩ => ⟨S2x1024x1024, .bf16⟩
  | .hbm, ⟨18, _⟩ => ⟨S2x64x8x64, .i32⟩
  | .hbm, ⟨19, _⟩ => ⟨S2x64x8x64, .i32⟩
  | .hbm, ⟨20, _⟩ => ⟨S2x64x8x64, .i1⟩
  | .hbm, ⟨21, _⟩ => ⟨S128x512, .i1⟩
  | .hbm, ⟨22, _⟩ => ⟨S128x512, .bf16⟩
  | .hbm, ⟨23, _⟩ => ⟨S2x1x1024, .f32⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S1x3072x1024, .bf16⟩
  | .local _ .vmem, ⟨20, _⟩ => ⟨S1x3x512x1024, .bf16⟩
  | .local _ .vmem, ⟨21, _⟩ => ⟨S1x1024x1024, .bf16⟩
  | .local _ .vmem, ⟨22, _⟩ => ⟨S128x512, .bf16⟩
  | .local _ .vmem, ⟨23, _⟩ => ⟨S512x1024, .f32⟩
  | .local _ .vmem, ⟨24, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x3072x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S16384x1024 : Shape := ⟨2, ![16384, 1024]⟩
abbrev S2x1024 : Shape := ⟨2, ![2, 1024]⟩
abbrev S16384x512 : Shape := ⟨2, ![16384, 512]⟩
abbrev S16384x128 : Shape := ⟨2, ![16384, 128]⟩
abbrev S2x1024x10000 : Shape := ⟨3, ![2, 1024, 10000]⟩
abbrev S2x3x512x1024 : Shape := ⟨4, ![2, 3, 512, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x3072 : Shape := ⟨3, ![1, 1024, 3072]⟩
abbrev S1024x3072 : Shape := ⟨2, ![1024, 3072]⟩
abbrev S16384x3072 : Shape := ⟨2, ![16384, 3072]⟩
abbrev S16384x8 : Shape := ⟨2, ![16384, 8]⟩
abbrev S16384x1x8 : Shape := ⟨3, ![16384, 1, 8]⟩
abbrev S16384x3x8 : Shape := ⟨3, ![16384, 3, 8]⟩
abbrev S16384x1x512 : Shape := ⟨3, ![16384, 1, 512]⟩
abbrev S16384x3x512 : Shape := ⟨3, ![16384, 3, 512]⟩
abbrev S16384x3x8x64 : Shape := ⟨4, ![16384, 3, 8, 64]⟩
abbrev S16384x3x8x1 : Shape := ⟨4, ![16384, 3, 8, 1]⟩
abbrev S16384x8x64 : Shape := ⟨3, ![16384, 8, 64]⟩
abbrev S16384x3x1024 : Shape := ⟨3, ![16384, 3, 1024]⟩
abbrev S16384x1x1024 : Shape := ⟨3, ![16384, 1, 1024]⟩
abbrev S1x1x512x1024 : Shape := ⟨4, ![1, 1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S16384x512, .bf16⟩
  | .hbm, ⟨9, _⟩ => ⟨S16384x512, .bf16⟩
  | .hbm, ⟨10, _⟩ => ⟨S2x1024x10000, .f32⟩
  | .hbm, ⟨11, _⟩ => ⟨S2x3x512x1024, .f32⟩
  | .hbm, ⟨12, _⟩ => ⟨S2x1024x1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1x1024x3072, .f32⟩
  | .hbm, ⟨32, _⟩ => ⟨S1024x3072, .f32⟩
  | .hbm, ⟨33, _⟩ => ⟨S16384x3072, .f32⟩
  | .hbm, ⟨34, _⟩ => ⟨S16384x8, .f32⟩
  | .hbm, ⟨35, _⟩ => ⟨S16384x8, .f32⟩
  | .hbm, ⟨36, _⟩ => ⟨S16384x8, .f32⟩
  | .hbm, ⟨37, _⟩ => ⟨S16384x1x8, .f32⟩
  | .hbm, ⟨38, _⟩ => ⟨S16384x1x8, .f32⟩
  | .hbm, ⟨39, _⟩ => ⟨S16384x1x8, .f32⟩
  | .hbm, ⟨40, _⟩ => ⟨S16384x3x8, .f32⟩
  | .hbm, ⟨41, _⟩ => ⟨S_, .f32⟩
  | .hbm, ⟨42, _⟩ => ⟨S_, .f32⟩
  | .hbm, ⟨43, _⟩ => ⟨S16384x3x8, .f32⟩
  | .hbm, ⟨44, _⟩ => ⟨S16384x3x8, .f32⟩
  | .hbm, ⟨45, _⟩ => ⟨S_, .f32⟩
  | .hbm, ⟨46, _⟩ => ⟨S16384x8, .f32⟩
  | .hbm, ⟨47, _⟩ => ⟨S_, .f32⟩
  | .hbm, ⟨48, _⟩ => ⟨S16384x8, .f32⟩
  | .hbm, ⟨49, _⟩ => ⟨S16384x8, .f32⟩
  | .hbm, ⟨50, _⟩ => ⟨S16384x1x8, .f32⟩
  | .hbm, ⟨51, _⟩ => ⟨S16384x3x8, .f32⟩
  | .hbm, ⟨52, _⟩ => ⟨S16384x3x8, .f32⟩
  | .hbm, ⟨53, _⟩ => ⟨S16384x3x8, .f32⟩
  | .hbm, ⟨54, _⟩ => ⟨S_, .f32⟩
  | .hbm, ⟨55, _⟩ => ⟨S16384x8, .f32⟩
  | .hbm, ⟨56, _⟩ => ⟨S16384x1x8, .f32⟩
  | .hbm, ⟨57, _⟩ => ⟨S16384x3x8, .f32⟩
  | .hbm, ⟨58, _⟩ => ⟨S16384x3x8, .f32⟩
  | .hbm, ⟨59, _⟩ => ⟨S16384x1x512, .bf16⟩
  | .hbm, ⟨60, _⟩ => ⟨S16384x1x512, .bf16⟩
  | .hbm, ⟨61, _⟩ => ⟨S16384x1x512, .bf16⟩
  | .hbm, ⟨62, _⟩ => ⟨S16384x3x512, .bf16⟩
  | .hbm, ⟨63, _⟩ => ⟨S16384x3x8x64, .bf16⟩
  | .hbm, ⟨64, _⟩ => ⟨S16384x3x8x64, .f32⟩
  | .hbm, ⟨65, _⟩ => ⟨S16384x3x8x1, .f32⟩
  | .hbm, ⟨66, _⟩ => ⟨S16384x3x8x64, .f32⟩
  | .hbm, ⟨67, _⟩ => ⟨S16384x3x8x64, .f32⟩
  | .hbm, ⟨68, _⟩ => ⟨S_, .f32⟩
  | .hbm, ⟨69, _⟩ => ⟨S16384x8x64, .f32⟩
  | .hbm, ⟨70, _⟩ => ⟨S16384x512, .f32⟩
  | .hbm, ⟨71, _⟩ => ⟨S16384x3x1024, .f32⟩
  | .hbm, ⟨72, _⟩ => ⟨S16384x3x1024, .f32⟩
  | .hbm, ⟨73, _⟩ => ⟨S16384x3x1024, .f32⟩
  | .hbm, ⟨74, _⟩ => ⟨S_, .f32⟩
  | .hbm, ⟨75, _⟩ => ⟨S16384x3x1024, .f32⟩
  | .hbm, ⟨76, _⟩ => ⟨S16384x3x1024, .f32⟩
  | .hbm, ⟨77, _⟩ => ⟨S_, .f32⟩
  | .hbm, ⟨78, _⟩ => ⟨S16384x3x1024, .f32⟩
  | .hbm, ⟨79, _⟩ => ⟨S16384x3x1024, .f32⟩
  | .hbm, ⟨80, _⟩ => ⟨S16384x1x1024, .f32⟩
  | .hbm, ⟨81, _⟩ => ⟨S16384x1024, .f32⟩
  | .hbm, ⟨82, _⟩ => ⟨S1x1x512x1024, .f32⟩
  | .hbm, ⟨83, _⟩ => ⟨S512x1024, .f32⟩
  | .hbm, ⟨84, _⟩ => ⟨S16384x1024, .f32⟩
  | .hbm, ⟨85, _⟩ => ⟨S16384x1024, .f32⟩
  | .hbm, ⟨86, _⟩ => ⟨S16384x1x1024, .f32⟩
  | .hbm, ⟨87, _⟩ => ⟨S16384x1024, .f32⟩
  | .hbm, ⟨88, _⟩ => ⟨S16384x512, .f32⟩
  | .hbm, ⟨89, _⟩ => ⟨S1x1x512x1024, .f32⟩
  | .hbm, ⟨90, _⟩ => ⟨S512x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1x1024, .f32⟩
  | .hbm, ⟨95, _⟩ => ⟨S16384x1024, .f32⟩
  | .hbm, ⟨96, _⟩ => ⟨S16384x512, .f32⟩
  | .hbm, ⟨97, _⟩ => ⟨S1x1x512x1024, .f32⟩
  | .hbm, ⟨98, _⟩ => ⟨S512x1024, .f32⟩
  | .hbm, ⟨99, _⟩ => ⟨S16384x1024, .f32⟩
  | .hbm, ⟨100, _⟩ => ⟨S16384x1024, .f32⟩
  | .hbm, ⟨101, _⟩ => ⟨S16384x1024, .f32⟩
  | .hbm, ⟨102, _⟩ => ⟨S1x1024x1024, .f32⟩
  | .hbm, ⟨103, _⟩ => ⟨S1024x1024, .f32⟩
  | .hbm, ⟨104, _⟩ => ⟨S16384x1024, .f32⟩
  | .hbm, ⟨105, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== Proof.Sigmoid.lean ====
/- The sigmoid through the hyperbolic tangent, over the extended reals. -/
module

public import Idealize.ShloMosaic.Lib.IdealHost
public import Idealize.ShloMosaic.PureOps.Ideal

@[expose] public section

noncomputable section

namespace Cert.Sigmoid

open Idealize.ShloMosaic

/-- The bit pattern of one half denotes one half. -/
theorem half_bits : Ideal.ofBits .f32 0x3F000000#32 = (((1 / 2 : ℝ)) : EReal) := by
  simp [Ideal.ofBits, Ideal.ieee]
  norm_cast
  norm_num

/-- On the reals, `½ tanh (x / 2) + ½ = 1 / (1 + e⁻ˣ)`. -/
theorem real_sigmoid (r : ℝ) : 1 / 2 * Real.tanh (1 / 2 * r) + 1 / 2 = (1 + Real.exp (-r))⁻¹ := by
  have hE : Real.exp (-r) = Real.exp (-(1 / 2 * r)) * Real.exp (-(1 / 2 * r)) := by
    rw [← Real.exp_add]; congr 1; ring
  have hp := Real.exp_pos (1 / 2 * r)
  have hn : Real.exp (-(1 / 2 * r)) = (Real.exp (1 / 2 * r))⁻¹ := Real.exp_neg _
  rw [Real.tanh_eq_sinh_div_cosh, Real.sinh_eq, Real.cosh_eq, hE, hn]
  generalize Real.exp (1 / 2 * r) = a at hp
  have : a ≠ 0 := hp.ne'
  have h2 : a ^ 2 + 1 ≠ 0 := by positivity
  field_simp
  ring

/-- The kernel's sigmoid is the logistic function, at the infinities too. -/
theorem tanh_form (x : EReal) :
    Ideal.ofBits .f32 0x3F000000#32 * Ideal.tanh (Ideal.ofBits .f32 0x3F000000#32 * x) + Ideal.ofBits .f32 0x3F000000#32
      = Ideal.logistic x := by
  rw [half_bits]
  induction x with
  | bot =>
    rw [EReal.coe_mul_bot_of_pos (by norm_num), Ideal.tanh_bot, Ideal.logistic_bot]
    rw [← EReal.coe_one, ← EReal.coe_neg, ← EReal.coe_mul, ← EReal.coe_add]; norm_num
  | top =>
    rw [EReal.coe_mul_top_of_pos (by norm_num), Ideal.tanh_top, Ideal.logistic_top]
    rw [← EReal.coe_one, ← EReal.coe_mul, ← EReal.coe_add]; norm_num
  | coe r =>
    rw [← EReal.coe_mul, Ideal.tanh_coe, ← EReal.coe_mul, ← EReal.coe_add, real_sigmoid, Ideal.logistic_coe]

end Cert.Sigmoid

end
-- ==== Proof.FfnValue.lean ====
/- The macaron half step of the kernel, read entry by entry, is the reference's. -/
module

public import proofs.«01_k».proof.Proof.Gen.FfnIdeal.Frame
public import proofs.«01_k».proof.Proof.Gen.FfnRefIdeal.Read
public import proofs.«01_k».proof.Proof.Sigmoid
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Half

open Cert.FfnIdeal Cert.FfnIdeal.Gen

variable (m : (ℓ : Loc nD τ sig) → Buf (Elt Ideal) ℓ)

/-- The windows' index maps at every grid point. -/
theorem idx : ∀ t : Fin cfg0.N, win0_0.index t = ![t.val, 0] ∧ win0_1.index t = ![0, 0, 0] ∧ win0_2.index t = ![0, 0, 0]
    ∧ win0_3.index t = ![0, 0, 1] ∧ win0_4.index t = ![0, 0, 0] ∧ win0_5.index t = ![t.val, 0] ∧ t.val < 32 :=
  (by decide +kernel : ∀ t : Fin grid0.N, _)

/-- One entry of the half step: the row `x` plus half of the gated feed-forward layer of its normalised form. -/
def rowFfn (x g : Fin 1024 → EReal) (wg wu : Fin 1024 → Fin 2816 → EReal) (wo : Fin 2816 → Fin 1024 → EReal) (j : Fin 1024) : EReal :=
  let h : Fin 1024 → EReal := fun k => x k * Ideal.rsqrt (Ideal.div (∑ l, x l * x l) (Ideal.ofBits .f32 0x44800000#32) + Ideal.ofBits .f32 0x358637BD#32) * g k
  x j + Ideal.ofBits .f32 0x3F000000#32 *
    ∑ f, (∑ k, h k * wg k f) * Ideal.logistic (∑ k, h k * wg k f) * (∑ k, h k * wu k f) * wo f j

/-- The kernel's stored entry: the two chunks of the hidden width are the halves of one sum. -/
theorem kernel_entry (X : Vec Ideal S512x1024 .f32) (G : Vec Ideal S1x1x1024 .f32) (Wg Wu : Vec Ideal S1x1024x2816 .bf16)
    (Wo : Vec Ideal S1x2816x1024 .bf16) (r : Fin 512) (j : Fin 1024) :
    out0_5 X G Wg Wu Wo (ix2 r j)
      = rowFfn (fun k => X (ix2 r k)) (fun k => G (ix3 0 0 k)) (fun k f => Wg (ix3 0 k f)) (fun k f => Wu (ix3 0 k f)) (fun f j => Wo (ix3 0 f j)) j := by
  frame_out
  pointwise [k0_pay1, k0_pay2, k0_pay3, k0_pay4]
  simp only [Cert.Sigmoid.tanh_form]
  unfold rowFfn
  dsimp only
  rw [Fin.sum_univ_two_halves (N := 2816) 1536 1280 rfl]

open Cert.FfnRefIdeal.Read in
/-- The reference's entry. -/
theorem reference_entry (X : FVec Ideal Cert.FfnRefIdeal.S2x8192x1024 .f32) (G : FVec Ideal Cert.FfnRefIdeal.S2x1024 .f32)
    (Wi : FVec Ideal Cert.FfnRefIdeal.S2x1024x5632 .f32) (Wo : FVec Ideal Cert.FfnRefIdeal.S2x2816x1024 .f32) (R : Fin 16384) (j : Fin 1024) :
    val_main_v28 (F := Ideal) X G Wi Wo (ix2 R j)
      = rowFfn (fun k => X (ix3 ⟨R.val / 8192, by omega⟩ ⟨R.val % 8192, by omega⟩ k)) (fun k => G (ix2 0 k))
          (fun k f => Wi (ix3 0 k ⟨f.val, by omega⟩)) (fun k f => Wi (ix3 0 k ⟨2816 + f.val, by omega⟩)) (fun f j => Wo (ix3 0 f j)) j := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23, val_main_v24, val_main_cst_2, val_main_v25, val_main_v26, val_main_v27, val_main_v28]
  unfold rowFfn
  simp only [Ideal.logistic]

/-- What the body stores at a block entry is the reference's entry at the block's place. -/
theorem point (c : Dev nD) (t : Fin cfg0.N) (y : S512x1024.Idx) :
    out0_5 (iblk m c 0 t) (iblk m c 1 t) (iblk m c 2 t) (iblk m c 3 t) (iblk m c 4 t) y
    = Cert.FfnRefIdeal.Read.val_main_v28 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  idx_vars y
  have ht : t.val < 32 := (idx t).2.2.2.2.2.2
  have he : ((cfg0.win 5).blk t).view.emb (ix2 y0 y1) = (ix2 ⟨t.val * 512 + y0.val, by omega⟩ y1 : S16384x1024.Idx) := by
    blk_ext [idx t]
  rw [he, kernel_entry]
  refine Eq.trans ?_ (reference_entry _ _ _ _ _ _).symm
  congr 1
  · funext k; blk_point [iblk, V, idx t]
  · funext k; blk_point [iblk, V, idx t]
  · funext k f; blk_point [iblk, V, idx t]
  · funext k f; blk_point [iblk, V, idx t]
  · funext k f; blk_point [iblk, V, idx t]

/-- The result array of the kernel is the reference's. -/
theorem final (c : Dev nD) : (dats m 0 c).arrAt 5 (cfgs 0).N
    = Cert.FfnRefIdeal.Read.val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point m c t y

end Cert.FfnIdeal.Half

end
-- ==== Proof.FfnClaims.lean ====
/- The value claim of the feed-forward call. -/
module

public import proofs.«01_k».proof.Defs
public import proofs.«01_k».proof.Proof.Gen.Ffn.Frame
public import proofs.«01_k».proof.Proof.Gen.FfnRefIdeal.Run
public import Idealize.ShloMosaic.Lib.Quiescent
public import proofs.«01_k».proof.Proof.FfnValue

@[expose] public section

set_option maxRecDepth 16384

noncomputable section

open Idealize.ShloMosaic Idealize.SL.Sem

namespace Cert.Proof

attribute [local instance] Cert.Ffn.Gen.facts Cert.FfnIdeal.Gen.facts Cert.FfnRefIdeal.Gen.facts

theorem quiescent_Ffn : Cert.quiescent_Ffn := fun m ρ _ => Cert.Ffn.Gen.frame m ρ

theorem quiescent_FfnIdeal : Cert.quiescent_FfnIdeal := fun m ρ _ => Cert.FfnIdeal.Gen.frame m ρ

theorem quiescent_FfnRefIdeal : Cert.quiescent_FfnRefIdeal := fun m ρ _ =>
  (θ_run _ _ _).mono (fun r h => ⟨fun c => (h c).2, sem_eq_zero_of_no_sems rfl r.2⟩) (Cert.FfnRefIdeal.Value.run m ρ)

theorem algebraic_Ffn : Cert.algebraic_FfnIdeal_FfnRefIdeal := by
  pair_intro
  · run_from Cert.FfnIdeal.Gen.run_main m g
  · run_from Cert.FfnRefIdeal.Value.run m' g'
    have h := hagree c
    rw [Cert.FfnRefIdeal.Read.val_main_v28_eq, h.1, h.2.1, h.2.2.1, h.2.2.2]
    exact (Cert.FfnIdeal.Half.final m c).symm

end Cert.Proof

end
-- ==== Proof.AttnOffsets.lean ====
/- The loop of the attention kernel at trip `k`: where its loads and stores lie, as sums of multiples of the trip and of
   the slot. The first thirteen chains are the output stage's (pair `k + 1`), the rest the score stage's (pair `k + 3`). -/
module

public import proofs.«01_k».proof.Proof.Gen.AttnIdeal.Loops

@[expose] public section

namespace Cert.AttnIdeal.Gen

open Idealize.ShloMosaic Idealize.ShloMosaic.Tactic

theorem k0_off1_eq : ∀ (k : Fin k0_t1_loop.trips) (r : Fin 2), k0_off1 k (BitVec.ofNat 32 r.val) = ![0, 0, 256 * k.val + 128 * r.val + 256, 0] := by decide +kernel
instance (k : Fin k0_t1_loop.trips) : ClosedOff (k0_off1 k 0#32) := ⟨_, k0_off1_eq k 0⟩
instance (k : Fin k0_t1_loop.trips) : ClosedOff (k0_off1 k 1#32) := ⟨_, k0_off1_eq k 1⟩

theorem k0_off2_eq : ∀ (k : Fin k0_t1_loop.trips) (r : Fin 2), k0_off2 k (BitVec.ofNat 32 r.val) = ![0, 0, 256 * k.val + 128 * r.val + 128, 0] := by decide +kernel
instance (k : Fin k0_t1_loop.trips) : ClosedOff (k0_off2 k 0#32) := ⟨_, k0_off2_eq k 0⟩
instance (k : Fin k0_t1_loop.trips) : ClosedOff (k0_off2 k 1#32) := ⟨_, k0_off2_eq k 1⟩

theorem k0_off3_eq : ∀ (k : Fin k0_t1_loop.trips) (r : Fin 2), k0_off3 k (BitVec.ofNat 32 r.val) = ![0, 256 * k.val + 128 * r.val + 256, 0] := by decide +kernel
instance (k : Fin k0_t1_loop.trips) : ClosedOff (k0_off3 k 0#32) := ⟨_, k0_off3_eq k 0⟩
instance (k : Fin k0_t1_loop.trips) : ClosedOff (k0_off3 k 1#32) := ⟨_, k0_off3_eq k 1⟩

theorem k0_off4_eq : ∀ (k : Fin k0_t1_loop.trips) (r : Fin 2), k0_off4 k (BitVec.ofNat 32 r.val) = ![0, 0, 256 * k.val + 128 * r.val + 256, 128] := by decide +kernel
instance (k : Fin k0_t1_loop.trips) : ClosedOff (k0_off4 k 0#32) := ⟨_, k0_off4_eq k 0⟩
instance (k : Fin k0_t1_loop.trips) : ClosedOff (k0_off4 k 1#32) := ⟨_, k0_off4_eq k 1⟩

theorem k0_off5_eq : ∀ (k : Fin k0_t1_loop.trips) (r : Fin 2), k0_off5 k (BitVec.ofNat 32 r.val) = ![0, 0, 256 * k.val + 128 * r.val + 128, 128] := by decide +kernel
instance (k : Fin k0_t1_loop.trips) : ClosedOff (k0_off5 k 0#32) := ⟨_, k0_off5_eq k 0⟩
instance (k : Fin k0_t1_loop.trips) : ClosedOff (k0_off5 k 1#32) := ⟨_, k0_off5_eq k 1⟩

theorem k0_off6_eq : ∀ (k : Fin k0_t1_loop.trips) (r : Fin 2), k0_off6 k (BitVec.ofNat 32 r.val) = ![0, 256 * k.val + 128 * r.val + 256, 128] := by decide +kernel
instance (k : Fin k0_t1_loop.trips) : ClosedOff (k0_off6 k 0#32) := ⟨_, k0_off6_eq k 0⟩
instance (k : Fin k0_t1_loop.trips) : ClosedOff (k0_off6 k 1#32) := ⟨_, k0_off6_eq k 1⟩

theorem k0_off7_eq : ∀ (k : Fin k0_t1_loop.trips) (r : Fin 2), k0_off7 k (BitVec.ofNat 32 r.val) = ![0, 0, 256 * k.val + 128 * r.val + 256, 256] := by decide +kernel
instance (k : Fin k0_t1_loop.trips) : ClosedOff (k0_off7 k 0#32) := ⟨_, k0_off7_eq k 0⟩
instance (k : Fin k0_t1_loop.trips) : ClosedOff (k0_off7 k 1#32) := ⟨_, k0_off7_eq k 1⟩

theorem k0_off8_eq : ∀ (k : Fin k0_t1_loop.trips) (r : Fin 2), k0_off8 k (BitVec.ofNat 32 r.val) = ![0, 0, 256 * k.val + 128 * r.val + 128, 256] := by decide +kernel
instance (k : Fin k0_t1_loop.trips) : ClosedOff (k0_off8 k 0#32) := ⟨_, k0_off8_eq k 0⟩
instance (k : Fin k0_t1_loop.trips) : ClosedOff (k0_off8 k 1#32) := ⟨_, k0_off8_eq k 1⟩

theorem k0_off9_eq : ∀ (k : Fin k0_t1_loop.trips) (r : Fin 2), k0_off9 k (BitVec.ofNat 32 r.val) = ![0, 256 * k.val + 128 * r.val + 256, 256] := by decide +kernel
instance (k : Fin k0_t1_loop.trips) : ClosedOff (k0_off9 k 0#32) := ⟨_, k0_off9_eq k 0⟩
instance (k : Fin k0_t1_loop.trips) : ClosedOff (k0_off9 k 1#32) := ⟨_, k0_off9_eq k 1⟩

theorem k0_off10_eq : ∀ (k : Fin k0_t1_loop.trips) (r : Fin 2), k0_off10 k (BitVec.ofNat 32 r.val) = ![0, 0, 256 * k.val + 128 * r.val + 256, 384] := by decide +kernel
instance (k : Fin k0_t1_loop.trips) : ClosedOff (k0_off10 k 0#32) := ⟨_, k0_off10_eq k 0⟩
instance (k : Fin k0_t1_loop.trips) : ClosedOff (k0_off10 k 1#32) := ⟨_, k0_off10_eq k 1⟩

theorem k0_off11_eq : ∀ (k : Fin k0_t1_loop.trips) (r : Fin 2), k0_off11 k (BitVec.ofNat 32 r.val) = ![0, 0, 256 * k.val + 128 * r.val + 128, 384] := by decide +kernel
instance (k : Fin k0_t1_loop.trips) : ClosedOff (k0_off11 k 0#32) := ⟨_, k0_off11_eq k 0⟩
instance (k : Fin k0_t1_loop.trips) : ClosedOff (k0_off11 k 1#32) := ⟨_, k0_off11_eq k 1⟩

theorem k0_off12_eq : ∀ (k : Fin k0_t1_loop.trips) (r : Fin 2), k0_off12 k (BitVec.ofNat 32 r.val) = ![0, 256 * k.val + 128 * r.val + 256, 384] := by decide +kernel
instance (k : Fin k0_t1_loop.trips) : ClosedOff (k0_off12 k 0#32) := ⟨_, k0_off12_eq k 0⟩
instance (k : Fin k0_t1_loop.trips) : ClosedOff (k0_off12 k 1#32) := ⟨_, k0_off12_eq k 1⟩

theorem k0_off13_eq : ∀ (k : Fin k0_t1_loop.trips) (r : Fin 2), k0_off13 k (BitVec.ofNat 32 r.val) = ![0, 256 * k.val + 128 * r.val + 256, 0] := by decide +kernel
instance (k : Fin k0_t1_loop.trips) : ClosedOff (k0_off13 k 0#32) := ⟨_, k0_off13_eq k 0⟩
instance (k : Fin k0_t1_loop.trips) : ClosedOff (k0_off13 k 1#32) := ⟨_, k0_off13_eq k 1⟩

theorem k0_off14_eq : ∀ (k : Fin k0_t1_loop.trips) (r : Fin 2), k0_off14 k (BitVec.ofNat 32 r.val) = ![0, 0, 256 * k.val + 128 * r.val + 768, 0] := by decide +kernel
instance (k : Fin k0_t1_loop.trips) : ClosedOff (k0_off14 k 0#32) := ⟨_, k0_off14_eq k 0⟩
instance (k : Fin k0_t1_loop.trips) : ClosedOff (k0_off14 k 1#32) := ⟨_, k0_off14_eq k 1⟩

theorem k0_off15_eq : ∀ (k : Fin k0_t1_loop.trips) (r : Fin 2), k0_off15 k (BitVec.ofNat 32 r.val) = ![0, 0, 256 * k.val + 128 * r.val + 640, 0] := by decide +kernel
instance (k : Fin k0_t1_loop.trips) : ClosedOff (k0_off15 k 0#32) := ⟨_, k0_off15_eq k 0⟩
instance (k : Fin k0_t1_loop.trips) : ClosedOff (k0_off15 k 1#32) := ⟨_, k0_off15_eq k 1⟩

theorem k0_off16_eq : ∀ (k : Fin k0_t1_loop.trips) (r : Fin 2), k0_off16 k (BitVec.ofNat 32 r.val) = ![0, 0, 256 * k.val + 128 * r.val + 768, 128] := by decide +kernel
instance (k : Fin k0_t1_loop.trips) : ClosedOff (k0_off16 k 0#32) := ⟨_, k0_off16_eq k 0⟩
instance (k : Fin k0_t1_loop.trips) : ClosedOff (k0_off16 k 1#32) := ⟨_, k0_off16_eq k 1⟩

theorem k0_off17_eq : ∀ (k : Fin k0_t1_loop.trips) (r : Fin 2), k0_off17 k (BitVec.ofNat 32 r.val) = ![0, 0, 256 * k.val + 128 * r.val + 640, 128] := by decide +kernel
instance (k : Fin k0_t1_loop.trips) : ClosedOff (k0_off17 k 0#32) := ⟨_, k0_off17_eq k 0⟩
instance (k : Fin k0_t1_loop.trips) : ClosedOff (k0_off17 k 1#32) := ⟨_, k0_off17_eq k 1⟩

theorem k0_off18_eq : ∀ (k : Fin k0_t1_loop.trips) (r : Fin 2), k0_off18 k (BitVec.ofNat 32 r.val) = ![0, 0, 256 * k.val + 128 * r.val + 768, 256] := by decide +kernel
instance (k : Fin k0_t1_loop.trips) : ClosedOff (k0_off18 k 0#32) := ⟨_, k0_off18_eq k 0⟩
instance (k : Fin k0_t1_loop.trips) : ClosedOff (k0_off18 k 1#32) := ⟨_, k0_off18_eq k 1⟩

theorem k0_off19_eq : ∀ (k : Fin k0_t1_loop.trips) (r : Fin 2), k0_off19 k (BitVec.ofNat 32 r.val) = ![0, 0, 256 * k.val + 128 * r.val + 640, 256] := by decide +kernel
instance (k : Fin k0_t1_loop.trips) : ClosedOff (k0_off19 k 0#32) := ⟨_, k0_off19_eq k 0⟩
instance (k : Fin k0_t1_loop.trips) : ClosedOff (k0_off19 k 1#32) := ⟨_, k0_off19_eq k 1⟩

theorem k0_off20_eq : ∀ (k : Fin k0_t1_loop.trips) (r : Fin 2), k0_off20 k (BitVec.ofNat 32 r.val) = ![0, 0, 256 * k.val + 128 * r.val + 768, 384] := by decide +kernel
instance (k : Fin k0_t1_loop.trips) : ClosedOff (k0_off20 k 0#32) := ⟨_, k0_off20_eq k 0⟩
instance (k : Fin k0_t1_loop.trips) : ClosedOff (k0_off20 k 1#32) := ⟨_, k0_off20_eq k 1⟩

theorem k0_off21_eq : ∀ (k : Fin k0_t1_loop.trips) (r : Fin 2), k0_off21 k (BitVec.ofNat 32 r.val) = ![0, 0, 256 * k.val + 128 * r.val + 640, 384] := by decide +kernel
instance (k : Fin k0_t1_loop.trips) : ClosedOff (k0_off21 k 0#32) := ⟨_, k0_off21_eq k 0⟩
instance (k : Fin k0_t1_loop.trips) : ClosedOff (k0_off21 k 1#32) := ⟨_, k0_off21_eq k 1⟩

end Cert.AttnIdeal.Gen

end
-- ==== Proof.AttnLoop.lean ====
module

public import proofs.«01_k».proof.Proof.AttnOffsets
public import proofs.«01_k».proof.Proof.Gen.AttnIdeal.Loops
public import proofs.«01_k».proof.Proof.Gen.AttnIdeal.Frame

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- Core `c` owns the memref `m`'s buffer, at contents `f`. -/
abbrev held (c : Dev nD) {s : Shape} {e : EltTy} (m : Memref sig .tc .vmem s e) (f : Buf (Elt F) (m.view.loc (c : Thread nD τ))) : sProp 𝕄 :=
  m.view.loc (c : Thread nD τ) ↦[m.view.set]{fullShare} f

set_option maxHeartbeats 4000000 in
/-- One trip of the pipelined loop, at any trip number: the queries, keys and values stay as they were, and the two
    results and the three scratch buffers the stages hand on are left at some contents. -/
theorem trip (c : Dev nD) (i : grid0.Coords) (arg2 : Memref sig .tc .vmem S1x1x2048x512 .bf16) (harg2 : arg2.IsWhole) (arg3 : Memref sig .tc .vmem S1x1x2048x512 .bf16) (harg3 : arg3.IsWhole) (arg4 : Memref sig .tc .vmem S1x1x128x512 .bf16) (harg4 : arg4.IsWhole) (arg5 : Memref sig .tc .vmem S1x1x2048x512 .bf16) (harg5 : arg5.IsWhole) (arg6 : Memref sig .tc .vmem S1x1x128x512 .bf16) (harg6 : arg6.IsWhole) (arg7 : Memref sig .tc .vmem S1x2048x512 .bf16) (harg7 : arg7.IsWhole) (arg8 : Memref sig .tc .vmem S1x2048x128 .f32) (harg8 : arg8.IsWhole) (arg9 : Memref sig .tc .vmem S4x8x128 .f32) (harg9 : arg9.IsWhole) (arg10 : Memref sig .tc .vmem S8x128 .f32) (harg10 : arg10.IsWhole) (arg11 : Memref sig .tc .vmem S8x256x256 .f32) (harg11 : arg11.IsWhole) (arg12 : Memref sig .tc .vmem S8x256x256 .bf16) (harg12 : arg12.IsWhole) (arg13 : Memref sig .tc .vmem S8x8x256 .f32) (harg13 : arg13.IsWhole)
    (arg1 : BitVec 32) (v24 : IVec S1x128 32) (v25 : IVec S256x256 32) (v50 : IVec S256x256 1) (v51 : IVec S8x128 32) (v52 : FVec F S8x256 .bf16) (v1310 : IVec S256x256 1) (v1418 : FVec F S256x128 .bf16)
    (f2 : Buf (Elt F) (arg2.view.loc (c : Thread nD τ))) (f3 : Buf (Elt F) (arg3.view.loc (c : Thread nD τ))) (f5 : Buf (Elt F) (arg5.view.loc (c : Thread nD τ)))
    (k : Fin k0_t1_loop.trips) :
    iprop(held c arg2 f2 ∗ held c arg3 f3 ∗ held c arg5 f5 ∗ (∃ f7, held c arg7 f7) ∗ (∃ f8, held c arg8 f8) ∗ (∃ f11, held c arg11 f11) ∗ (∃ f12, held c arg12 f12) ∗ (∃ f13, held c arg13 f13))
      ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg1 v24 v25 v50 v51 v52 v1310 v1418 k ())
        (fun _ => iprop(held c arg2 f2 ∗ held c arg3 f3 ∗ held c arg5 f5 ∗ (∃ f7, held c arg7 f7) ∗ (∃ f8, held c arg8 f8) ∗ (∃ f11, held c arg11 f11) ∗ (∃ f12, held c arg12 f12) ∗ (∃ f13, held c arg13 f13))) := by
  unfold k0_t1_body
  iintro ⟨H2, H3, H5, ⟨%f7, H7⟩, ⟨%f8, H8⟩, ⟨%f11, H11⟩, ⟨%f12, H12⟩, ⟨%f13, H13⟩⟩
  sl_exec_parts
  sl_step
  sl_close

/-- The loop's invariant: the buffers its trips touch, the inputs' at what they hold. -/
@[sl_loop] def loopInv (c : Dev nD) (i : grid0.Coords) (arg2 : Memref sig .tc .vmem S1x1x2048x512 .bf16) (harg2 : arg2.IsWhole) (arg3 : Memref sig .tc .vmem S1x1x2048x512 .bf16) (harg3 : arg3.IsWhole) (arg4 : Memref sig .tc .vmem S1x1x128x512 .bf16) (harg4 : arg4.IsWhole) (arg5 : Memref sig .tc .vmem S1x1x2048x512 .bf16) (harg5 : arg5.IsWhole) (arg6 : Memref sig .tc .vmem S1x1x128x512 .bf16) (harg6 : arg6.IsWhole) (arg7 : Memref sig .tc .vmem S1x2048x512 .bf16) (harg7 : arg7.IsWhole) (arg8 : Memref sig .tc .vmem S1x2048x128 .f32) (harg8 : arg8.IsWhole) (arg9 : Memref sig .tc .vmem S4x8x128 .f32) (harg9 : arg9.IsWhole) (arg10 : Memref sig .tc .vmem S8x128 .f32) (harg10 : arg10.IsWhole) (arg11 : Memref sig .tc .vmem S8x256x256 .f32) (harg11 : arg11.IsWhole) (arg12 : Memref sig .tc .vmem S8x256x256 .bf16) (harg12 : arg12.IsWhole) (arg13 : Memref sig .tc .vmem S8x8x256 .f32) (harg13 : arg13.IsWhole)
    (arg1 : BitVec 32) (v24 : IVec S1x128 32) (v25 : IVec S256x256 32) (v50 : IVec S256x256 1) (v51 : IVec S8x128 32) (v52 : FVec F S8x256 .bf16) (v1310 : IVec S256x256 1) (v1418 : FVec F S256x128 .bf16)
    (f2 : Buf (Elt F) (arg2.view.loc (c : Thread nD τ))) (f3 : Buf (Elt F) (arg3.view.loc (c : Thread nD τ))) (f5 : Buf (Elt F) (arg5.view.loc (c : Thread nD τ))) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg1 v24 v25 v50 v51 v52 v1310 v1418 :=
  ⟨fun _ _ => iprop(held c arg2 f2 ∗ held c arg3 f3 ∗ held c arg5 f5 ∗ (∃ f7, held c arg7 f7) ∗ (∃ f8, held c arg8 f8) ∗ (∃ f11, held c arg11 f11) ∗ (∃ f12, held c arg12 f12) ∗ (∃ f13, held c arg13 f13)),
   fun k _ => trip c i arg2 harg2 arg3 harg3 arg4 harg4 arg5 harg5 arg6 harg6 arg7 harg7 arg8 harg8 arg9 harg9 arg10 harg10 arg11 harg11 arg12 harg12 arg13 harg13 arg1 v24 v25 v50 v51 v52 v1310 v1418 f2 f3 f5 k⟩

end Cert.AttnIdeal.Gen

end
-- ==== Proof.AttnBody.lean ====
module

public import proofs.«01_k».proof.Proof.AttnLoop

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 8000000 in
/-- The kernel's body: the inputs' buffers stay as they were, every other buffer is left at some contents. -/
theorem run_body (c : Dev nD) (i : grid0.Coords) (arg2 : Memref sig .tc .vmem S1x1x2048x512 .bf16) (harg2 : arg2.IsWhole) (arg3 : Memref sig .tc .vmem S1x1x2048x512 .bf16) (harg3 : arg3.IsWhole) (arg4 : Memref sig .tc .vmem S1x1x128x512 .bf16) (harg4 : arg4.IsWhole) (arg5 : Memref sig .tc .vmem S1x1x2048x512 .bf16) (harg5 : arg5.IsWhole) (arg6 : Memref sig .tc .vmem S1x1x128x512 .bf16) (harg6 : arg6.IsWhole) (arg7 : Memref sig .tc .vmem S1x2048x512 .bf16) (harg7 : arg7.IsWhole) (arg8 : Memref sig .tc .vmem S1x2048x128 .f32) (harg8 : arg8.IsWhole) (arg9 : Memref sig .tc .vmem S4x8x128 .f32) (harg9 : arg9.IsWhole) (arg10 : Memref sig .tc .vmem S8x128 .f32) (harg10 : arg10.IsWhole) (arg11 : Memref sig .tc .vmem S8x256x256 .f32) (harg11 : arg11.IsWhole) (arg12 : Memref sig .tc .vmem S8x256x256 .bf16) (harg12 : arg12.IsWhole) (arg13 : Memref sig .tc .vmem S8x8x256 .f32) (harg13 : arg13.IsWhole)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (K : PUnit → sProp 𝕄) :
    iprop(held c arg2 f2 ∗ held c arg3 f3 ∗ held c arg4 f4 ∗ held c arg5 f5 ∗ held c arg6 f6 ∗ (∃ f7, held c arg7 f7) ∗ (∃ f8, held c arg8 f8) ∗ (∃ f9, held c arg9 f9) ∗ (∃ f10, held c arg10 f10) ∗ (∃ f11, held c arg11 f11) ∗ (∃ f12, held c arg12 f12) ∗ (∃ f13, held c arg13 f13)
        ∗ (iprop(held c arg2 f2 ∗ held c arg3 f3 ∗ held c arg4 f4 ∗ held c arg5 f5 ∗ held c arg6 f6 ∗ (∃ f7, held c arg7 f7) ∗ (∃ f8, held c arg8 f8) ∗ (∃ f9, held c arg9 f9) ∗ (∃ f10, held c arg10 f10) ∗ (∃ f11, held c arg11 f11) ∗ (∃ f12, held c arg12 f12) ∗ (∃ f13, held c arg13 f13)) -∗ K ⟨⟩))
      ⊢ wp frame (wpE (defs₀ (F := F)) Variants.none (c : Thread nD τ) none) Set.univ
        (cc0_attn_d1_w128 (F := F) i arg2 harg2 arg3 harg3 arg4 harg4 arg5 harg5 arg6 harg6 arg7 harg7 arg8 harg8 arg9 harg9 arg10 harg10 arg11 harg11 arg12 harg12 arg13 harg13) K := by
  simp only [cc0_attn_d1_w128_eq_skeleton]; unfold cc0_attn_d1_w128_skel
  iintro ⟨H2, H3, H4, H5, H6, ⟨%f7, H7⟩, ⟨%f8, H8⟩, ⟨%f9, H9⟩, ⟨%f10, H10⟩, ⟨%f11, H11⟩, ⟨%f12, H12⟩, ⟨%f13, H13⟩, Hk⟩
  sl_exec_parts
  sl_step
  iapply Hk
  sl_close

end Cert.AttnIdeal.Gen

end
-- ==== Proof.AttnFrame.lean ====
module

public import proofs.«01_k».proof.Proof.AttnBody

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the frame's run knows of the pipeline: each input's staging buffer keeps its block; nothing is said of the
    two results'; the scratch buffers are free between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed 5 t
    | ⟨6, _⟩ => Dat.unnamed 6 t
  Φ _ := Pipeline.ΦA spec0 c
  q w := Pipeline.shareOf spec0 w
  owed _ := 0

/-- The two results' windows, of whose contents the frame says nothing. -/
def results : Fin cfg0.W → Bool := fun w => match w with
  | ⟨5, _⟩ => true
  | ⟨6, _⟩ => true
  | _ => false

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (fun _ => by dsimp only [dats]) t d
theorem before0_1 (c : Dev nD) (t : Fin cfg0.N) (d) : (dats m 0 c).before 1 t d = iblk m c 1 t :=
  before0_1_of m (dats m 0 c) (A_eq m c 1) (fun _ => by dsimp only [dats]) t d
theorem before0_2 (c : Dev nD) (t : Fin cfg0.N) (d) : (dats m 0 c).before 2 t d = iblk m c 2 t :=
  before0_2_of m (dats m 0 c) (A_eq m c 2) (fun _ => by dsimp only [dats]) t d
theorem before0_3 (c : Dev nD) (t : Fin cfg0.N) (d) : (dats m 0 c).before 3 t d = iblk m c 3 t :=
  before0_3_of m (dats m 0 c) (A_eq m c 3) (fun _ => by dsimp only [dats]) t d
theorem before0_4 (c : Dev nD) (t : Fin cfg0.N) (d) : (dats m 0 c).before 4 t d = iblk m c 4 t :=
  before0_4_of m (dats m 0 c) (A_eq m c 4) (fun _ => by dsimp only [dats]) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X) ∗ (∃ X, owns (c : Thread nD τ) (st0_6 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X) ∗ (∃ X, owns (c : Thread nD τ) (st0_6 t) fullShare X))

/-- The body at any point: `run_body` on the staging buffers and the five scratch buffers. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4]
  unfold Pipeline.ΦA owns
  rw [scopedRest0_eq]
  iintro ⟨⟨⟨⟨%f9, H9⟩, ⟨%f10, H10⟩, ⟨%f11, H11⟩, ⟨%f12, H12⟩, ⟨%f13, H13⟩⟩, Hg⟩, Ho, ⟨%d0, %f2, %h2, H2⟩, ⟨%d1, %f3, %h3, H3⟩, ⟨%d2, %f4, %h4, H4⟩, ⟨%d3, %f5, %h5, H5⟩, ⟨%d4, %f6, %h6, H6⟩, ⟨%d5, %f7, -, H7⟩, ⟨%d6, %f8, -, H8⟩⟩
  iapply (run_body c (grid0.coords t) _ _ _ _ _ _ _ _ _ _ _ _ _ _ _ _ _ _ _ _ _ _ _ _ f2 f3 f4 f5 f6 _)
  simp only [held, Memref.view_whole, View.set_whole]
  isplitl [H2]; · iexact H2
  isplitl [H3]; · iexact H3
  isplitl [H4]; · iexact H4
  isplitl [H5]; · iexact H5
  isplitl [H6]; · iexact H6
  isplitl [H7]; · iexists f7; iexact H7
  isplitl [H8]; · iexists f8; iexact H8
  isplitl [H9]; · iexists f9; iexact H9
  isplitl [H10]; · iexists f10; iexact H10
  isplitl [H11]; · iexists f11; iexact H11
  isplitl [H12]; · iexists f12; iexact H12
  isplitl [H13]; · iexists f13; iexact H13
  iintro ⟨H2, H3, H4, H5, H6, ⟨%g7, H7⟩, ⟨%g8, H8⟩, ⟨%g9, H9⟩, ⟨%g10, H10⟩, ⟨%g11, H11⟩, ⟨%g12, H12⟩, ⟨%g13, H13⟩⟩
  isplitl [H9 H10 H11 H12 H13 Hg]
  · isplitr [Hg]
    · isplitl [H9]; · iexists g9; iexact H9
      isplitl [H10]; · iexists g10; iexact H10
      isplitl [H11]; · iexists g11; iexact H11
      isplitl [H12]; · iexists g12; iexact H12
      iexists g13; iexact H13
    · iexact Hg
  isplitl [Ho]; · iexact Ho
  isplitl [H2]; · iexists f2; isplitr; swap; (· iexact H2); ipureintro; exact h2
  isplitl [H3]; · iexists f3; isplitr; swap; (· iexact H3); ipureintro; exact h3
  isplitl [H4]; · iexists f4; isplitr; swap; (· iexact H4); ipureintro; exact h4
  isplitl [H5]; · iexists f5; isplitr; swap; (· iexact H5); ipureintro; exact h5
  isplitl [H6]; · iexists f6; isplitr; swap; (· iexact H6); ipureintro; exact h6
  isplitl [H7]; · iexists _; iexists g7; isplitr; swap; (· iexact H7); ipureintro; rfl
  iexists _; iexists g8; isplitr; swap; (· iexact H8); ipureintro; rfl

theorem defs₀_row (t : Fin cfg0.N) :
    defs₀ (F := F) .tc cfg0.body (cfg0.bodyArgs t (cfg0.slots t)) = bodyAt0 t := by
  unfold defs₀; rw [Defs.onTc_tc]

/-- The library's body obligation, the two results' windows forgotten. -/
theorem body_obligation (c : Dev nD) : BodyObligation (dats (F := F) m 0 c) (defs₀ (F := F)) Variants.none () Set.univ results := fun t => by
  rw [bigSep_W0, bigSep_W0, defs₀_row]
  exact triple_restated (sound_body m c t) rfl .rfl fun _ => .rfl

set_option backward.isDefEq.respectTransparency.types false in
set_option maxHeartbeats 800000 in
/-- The launch: every execution ends, the inputs' arrays and every other unscoped buffer as the region found them, and
    every semaphore counter at zero. -/
theorem run_main_quiescent : θ_run defs (onTc (τ := τ) (main (F := F))) (s₀ m ρ)
    (fun r => Pipeline.RDat.FramePost cfg0 (fun c => (dats m 0 c).toRForget results) (V m) r ∧ r.2.sem = fun _ => 0) :=
  Pipeline.θ_run_frame_forget_shared (Q' := _) cfgs (dats m) (0 : Fin 1) launch₀0 defs₀ Variants.none results m ρ main
    (hbody := fun c => (body_obligation m c).loose) (hq := fun _ _ _ => rfl)
    (howed := fun _ _ => rfl) (V := V m) (hmain := hmain m Variants.none) (hA := A_eq m) (hΦ := fun _ _ => rfl)

/-- THE FRAME: every execution ends, the three arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((congrFun (((dats m 0 c).toRForget results).ArrAt_in 0 rfl cfg0.N) _).mp ((h.1 c).1 0)).trans ((A_eq m c 0).trans (V_main_arg0 m c)),
      ((congrFun (((dats m 0 c).toRForget results).ArrAt_in 2 rfl cfg0.N) _).mp ((h.1 c).1 2)).trans ((A_eq m c 2).trans (V_main_arg1 m c)),
      ((congrFun (((dats m 0 c).toRForget results).ArrAt_in 4 rfl cfg0.N) _).mp ((h.1 c).1 4)).trans ((A_eq m c 4).trans (V_main_arg2 m c))⟩, h.2⟩)
    (run_main_quiescent m ρ)

end Cert.AttnIdeal.Gen

end
-- ==== Proof.AttnClaims.lean ====
/- The frame claims of the banded attention, and its named constants. -/
module

public import proofs.«01_k».proof.Defs
public import proofs.«01_k».proof.Proof.AttnFrame
public import proofs.«01_k».proof.Proof.AttnBitsFrame
public import proofs.«01_k».proof.Proof.Gen.AttnRefIdeal.Run
public import Idealize.ShloMosaic.Lib.Quiescent

@[expose] public section

set_option maxRecDepth 16384

noncomputable section

open Idealize.ShloMosaic Idealize.SL.Sem

namespace Cert.Proof

attribute [local instance] Cert.Attn.Gen.facts Cert.AttnIdeal.Gen.facts Cert.AttnRefIdeal.Gen.facts

theorem quiescent_Attn : Cert.quiescent_Attn := fun m ρ _ => Cert.Attn.Gen.frame m ρ

theorem quiescent_AttnIdeal : Cert.quiescent_AttnIdeal := fun m ρ _ => Cert.AttnIdeal.Gen.frame m ρ

theorem quiescent_AttnRefIdeal : Cert.quiescent_AttnRefIdeal := fun m ρ _ =>
  (θ_run _ _ _).mono (fun r h => ⟨fun c => (h c).2.2, sem_eq_zero_of_no_sems rfl r.2⟩) (Cert.AttnRefIdeal.Value.run m ρ)

theorem preserves_Attn : Cert.preserves_Attn_AttnIdeal :=
  ⟨IdealRules.named_const.statement Cert.AttnIdeal.κ "q_scale" .f32 0x3E38AA3B#32 (((1 / 8) * (Real.log 2)⁻¹ : ℝ) : EReal) rfl,
   IdealRules.named_const.statement Cert.AttnIdeal.κ "inv_ln2" .f32 0x3FB8AA3B#32 (((Real.log 2)⁻¹ : ℝ) : EReal) rfl⟩

end Cert.Proof

end
-- ==== Proof.MergeFinite.lean ====
/- What the precondition of the gated merge says. -/
module

public import proofs.«01_k».proof.Proof.Gen.MergeIdeal.Frame
public import proofs.«01_k».proof.Proof.Gen.MergeRefIdeal.Read
public import proofs.«01_k».proof.Proof.Sigmoid
public import proofs.«01_k».proof.Proof.Gen.Pre_finite
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Gated

open Cert.MergeIdeal Cert.MergeIdeal.Gen

/-- A number whose absolute value is below the infinity is real. -/
theorem real_of_lt (x : EReal) (h : BitVec.ofBool (decide (FloatOps.absf (F := Ideal) (φ := .f32) x < Ideal.ofBits FTy.f32 0x7F800000#32)) = 1#1) :
    ∃ r : ℝ, x = (r : EReal) := by
  have hi : Ideal.ofBits FTy.f32 0x7F800000#32 = ⊤ := by
    simp [Ideal.ofBits, Ideal.ieee]
  rw [hi] at h
  have h' : max x (-x) < ⊤ := by
    by_contra hn
    have hd : decide (FloatOps.absf (F := Ideal) (φ := .f32) x < (⊤ : EReal)) = false := decide_eq_false hn
    rw [hd] at h
    exact absurd h (by decide)
  induction x with
  | bot => simp at h'
  | top => simp at h'
  | coe r => exact ⟨r, rfl⟩

/-- A conjunction of two bits is set where both are. -/
theorem andi_bits : ∀ a b : BitVec 1, IntOp.andi a b = 1#1 → a = 1#1 ∧ b = 1#1 := by decide

open Cert.Pre_finite in
/-- What the precondition says of a head's logarithms. -/
theorem lanes (l1 l2 l3 : FVec Ideal Cert.Pre_finite.S16384x128 .f32) (x0 : FVec Ideal Cert.Pre_finite.S16384x1024 .f32) (x1 : FVec Ideal Cert.Pre_finite.S2x1024 .f32)
    (x2 x3 x4 x8 x9 : FVec Ideal Cert.Pre_finite.S16384x512 .bf16) (x10 : FVec Ideal Cert.Pre_finite.S2x1024x10000 .f32)
    (x11 : FVec Ideal Cert.Pre_finite.S2x3x512x1024 .f32) (x12 : FVec Ideal Cert.Pre_finite.S2x1024x1024 .f32) (R : Fin 16384) (q : Fin 8)
    (h : Cert.Pre_finite.fn (F := Ideal) x0 x1 x2 x3 x4 l1 l2 l3 x8 x9 x10 x11 x12 (ix2 R q) = 1#1) :
    ∃ x y z : ℝ, l1 (ix2 R ⟨q.val, by omega⟩) = (x : EReal) ∧ l2 (ix2 R ⟨q.val, by omega⟩) = (y : EReal) ∧ l3 (ix2 R ⟨q.val, by omega⟩) = (z : EReal) := by
  pointwise [Cert.Pre_finite.fn] at h
  obtain ⟨h12, h3⟩ := andi_bits _ _ h
  obtain ⟨h1, h2⟩ := andi_bits _ _ h12
  obtain ⟨x, hx⟩ := real_of_lt _ h1
  obtain ⟨y, hy⟩ := real_of_lt _ h2
  obtain ⟨z, hz⟩ := real_of_lt _ h3
  exact ⟨x, y, z, hx, hy, hz⟩

end Cert.MergeIdeal.Gated

end
-- ==== Proof.MergeWeights.lean ====
/- The two forms of the weights of three groups: powers of two times a reciprocal, and the softmax. -/
module

public import Idealize.ShloMosaic.Lib.IdealHost
public import Idealize.ShloMosaic.PureOps.Ideal

@[expose] public section

noncomputable section

namespace Cert.Weights

open Idealize.ShloMosaic

/-- A weight from base-2 logarithms: `2^(e - max)` times the reciprocal of the sum of the three powers. -/
def powerWeight (a b c e : EReal) : EReal :=
  Ideal.exp2 (e - max (max a b) c)
    * Ideal.div 1 (Ideal.exp2 (a - max (max a b) c) + Ideal.exp2 (b - max (max a b) c) + Ideal.exp2 (c - max (max a b) c))

/-- The logarithm of two. -/
abbrev logTwo : EReal := Ideal.log (Ideal.ofBits .f32 0x40000000#32)

/-- The largest of the three natural logarithms, taken from minus infinity up. -/
def softTop (a b c : EReal) : EReal :=
  max (Ideal.ofBits .f32 0xFF800000#32) (Finset.fold max (Ideal.ofBits .f32 0xFF800000#32)
    (fun x : Fin 3 => (if h : x.val < 1 then a else if h : x.val - 1 < 1 then b else c) * logTwo) Finset.univ)

/-- A softmax weight of the natural logarithms. -/
def softWeight (a b c e : EReal) : EReal :=
  Ideal.div (Ideal.exp (e * logTwo - softTop a b c))
    (Ideal.exp (a * logTwo - softTop a b c) + Ideal.exp (b * logTwo - softTop a b c) + Ideal.exp (c * logTwo - softTop a b c))

theorem logTwo_eq : logTwo = ((Real.log 2 : ℝ) : EReal) := by
  have h : Ideal.ofBits .f32 0x40000000#32 = ((2 : ℝ) : EReal) := by
    simp [Ideal.ofBits, Ideal.ieee]
    norm_cast
    norm_num
  rw [logTwo, h]
  show (if (2 : ℝ) ≤ 0 then ⊥ else ((Real.log 2 : ℝ) : EReal)) = _
  rw [if_neg (by norm_num)]

theorem bot_bits : Ideal.ofBits .f32 0xFF800000#32 = ⊥ := by
  simp [Ideal.ofBits, Ideal.ieee]

theorem coe_max (x y : ℝ) : max (x : EReal) (y : EReal) = ((max x y : ℝ) : EReal) :=
  (EReal.coe_strictMono.monotone.map_max).symm

theorem fold_three (b : EReal) (f : Fin 3 → EReal) : Finset.fold max b f Finset.univ = max (f 0) (max (f 1) (max (f 2) b)) := by
  rfl

theorem softTop_coe (x y z : ℝ) : softTop x y z = ((max (max x y) z * Real.log 2 : ℝ) : EReal) := by
  have h2 : (0 : ℝ) ≤ Real.log 2 := Real.log_nonneg (by norm_num)
  rw [softTop, bot_bits, fold_three, logTwo_eq]
  simp only [Fin.isValue, Fin.val_zero, Fin.val_one, Fin.val_two, Nat.lt_one_iff, one_ne_zero, dite_false, dite_true,
    Nat.sub_self, Nat.reduceSub, OfNat.ofNat_ne_zero, ← EReal.coe_mul, max_bot_right, max_bot_left, bot_le, sup_of_le_right, sup_of_le_left]
  rw [coe_max, coe_max, max_mul_of_nonneg _ _ h2, max_mul_of_nonneg _ _ h2, max_assoc]

theorem exp2_coe (r : ℝ) : Ideal.exp2 (r : EReal) = ((Real.exp (r * Real.log 2) : ℝ) : EReal) := by
  show ((Real.rpow 2 r : ℝ) : EReal) = _
  have h : Real.rpow 2 r = Real.exp (Real.log 2 * r) := Real.rpow_def_of_pos (by norm_num) r
  rw [h, mul_comm]

theorem exp_coe (r : ℝ) : Ideal.exp (r : EReal) = ((Real.exp r : ℝ) : EReal) := rfl

theorem div_coe (r s : ℝ) (hs : s ≠ 0) : Ideal.div (r : EReal) (s : EReal) = ((r * s⁻¹ : ℝ) : EReal) := by
  rw [Ideal.div, if_neg (by exact_mod_cast hs), EReal.coe_mul, EReal.coe_inv]

/-- On finite logarithms the first form is a real number. -/
theorem powerWeight_coe (x y z e : ℝ) : powerWeight x y z e
    = ((Real.exp ((e - max (max x y) z) * Real.log 2)
        * (Real.exp ((x - max (max x y) z) * Real.log 2) + Real.exp ((y - max (max x y) z) * Real.log 2)
            + Real.exp ((z - max (max x y) z) * Real.log 2))⁻¹ : ℝ) : EReal) := by
  have hs : Real.exp ((x - max (max x y) z) * Real.log 2) + Real.exp ((y - max (max x y) z) * Real.log 2)
            + Real.exp ((z - max (max x y) z) * Real.log 2) ≠ 0 := by positivity
  rw [powerWeight, coe_max, coe_max]
  simp only [← EReal.coe_sub, exp2_coe, ← EReal.coe_add]
  rw [← EReal.coe_one, div_coe _ _ hs, ← EReal.coe_mul, one_mul]

/-- On finite logarithms the two forms agree. -/
theorem power_eq_soft (x y z e : ℝ) : powerWeight x y z e = softWeight x y z e := by
  have hs : Real.exp ((x - max (max x y) z) * Real.log 2) + Real.exp ((y - max (max x y) z) * Real.log 2)
            + Real.exp ((z - max (max x y) z) * Real.log 2) ≠ 0 := by positivity
  rw [powerWeight_coe, softWeight, softTop_coe, logTwo_eq]
  simp only [← EReal.coe_mul, ← EReal.coe_sub, exp_coe, ← EReal.coe_add, ← sub_mul]
  rw [div_coe _ _ hs]

/-- A real number minus itself is zero. -/
theorem powerWeight_sub_self (x y z e : ℝ) : powerWeight x y z e - powerWeight x y z e = 0 := by
  rw [powerWeight_coe, ← EReal.coe_sub, sub_self, EReal.coe_zero]

theorem lane_lt : ∀ l : Fin 128, IntOp.cmpi .slt (BitVec.ofNat 32 l.val) 64#32 = if l.val < 64 then 1#1 else 0#1 := by
  decide +kernel

/-- The product with the expansion matrix reads the weight of the entry's head: of the other lanes the one multiplied by
one holds a remainder that is zero. -/
theorem expand_sum (w z E : Fin 128 → EReal) (q : ℕ) (hq : q < 8) (hE : ∀ l : Fin 128, E l = if l.val % 64 = q then 1 else 0)
    (hz : z ⟨64 + q, by omega⟩ = 0) :
    ∑ l : Fin 128, Scalar.select (IntOp.cmpi .slt (BitVec.ofNat 32 l.val) 64#32) (w l) (z l) * E l = w ⟨q, by omega⟩ := by
  rw [Finset.sum_eq_single ⟨q, by omega⟩]
  · rw [lane_lt, hE, if_pos (by dsimp only; omega), if_pos (by dsimp only; omega)]
    simp [Scalar.select]
  · intro l _ hl
    have hne : l.val ≠ q := fun h => hl (Fin.ext h)
    rw [hE]
    by_cases h : l.val % 64 = q
    · have hl64 : l = ⟨64 + q, by omega⟩ := Fin.ext (by dsimp only; omega)
      rw [lane_lt, if_neg (by omega), hl64, hz]
      simp [Scalar.select]
    · rw [if_neg h, mul_zero]
  · intro h; exact absurd (Finset.mem_univ _) h

end Cert.Weights

end
-- ==== Proof.MergeValue.lean ====
/- The gated merge of the kernel, read entry by entry, is the reference's. -/
module

public import proofs.«01_k».proof.Proof.Gen.MergeIdeal.Frame
public import proofs.«01_k».proof.Proof.Gen.MergeRefIdeal.Read
public import proofs.«01_k».proof.Proof.Sigmoid
public import proofs.«01_k».proof.Proof.MergeWeights
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Gated

open Cert.MergeIdeal Cert.MergeIdeal.Gen

/-- One entry of the gated merge: the row `x` plus the output projection of the three branches, each projected and
multiplied by its gate, the sigmoid of a linear function of the normalised row. -/
def rowMerge (x g : Fin 1024 → EReal) (ya yb yc : Fin 512 → EReal) (w0 w1 w2 : Fin 1024 → Fin 1024 → EReal)
    (b0 b1 b2 : Fin 512 → Fin 1024 → EReal) (wo : Fin 1024 → Fin 1024 → EReal) (j : Fin 1024) : EReal :=
  let h : Fin 1024 → EReal := fun k => x k * Ideal.rsqrt (Ideal.div (∑ l, x l * x l) (Ideal.ofBits .f32 0x44800000#32) + Ideal.ofBits .f32 0x358637BD#32) * g k
  x j + ∑ n, (Ideal.logistic (∑ k, h k * w0 n k) * (∑ p, ya p * b0 p n) + Ideal.logistic (∑ k, h k * w1 n k) * (∑ p, yb p * b1 p n)
    + Ideal.logistic (∑ k, h k * w2 n k) * (∑ p, yc p * b2 p n)) * wo n j

/-- The kernel's dilated mixer output, from the rows of the three groups. -/
def kernelYa (l1 l2 l3 : Vec Ideal S512x128 .f32) (E : Vec Ideal S128x512 .bf16) (o1 o2 o3 : Vec Ideal S512x512 .bf16) :
    FVec Ideal S512x512 .bf16 :=
  k0_pay13 (k0_pay5 l1 l2 l3) (k0_pay6 l1 l2 l3) (k0_pay7 l1 l2 l3) (k0_pay8 E) k0_pay9 (k0_pay11 l1 l2 l3) (k0_pay12 l1 l2 l3) 64#32 o1 o2 o3

/-- The kernel's stored entry. -/
theorem kernel_entry (X : Vec Ideal S512x1024 .f32) (G : Vec Ideal S1x1x1024 .f32) (o1 o2 o3 : Vec Ideal S512x512 .bf16)
    (l1 l2 l3 : Vec Ideal S512x128 .f32) (yb yc : Vec Ideal S512x512 .bf16) (Wg : Vec Ideal S1x3072x1024 .bf16)
    (Wb : Vec Ideal S1x3x512x1024 .bf16) (Wo : Vec Ideal S1x1024x1024 .bf16) (E : Vec Ideal S128x512 .bf16) (r : Fin 512) (j : Fin 1024) :
    out0_14 X G o1 o2 o3 l1 l2 l3 yb yc Wg Wb Wo E (ix2 r j)
      = rowMerge (fun k => X (ix2 r k)) (fun k => G (ix3 0 0 k)) (fun p => kernelYa l1 l2 l3 E o1 o2 o3 (ix2 r p))
          (fun p => yb (ix2 r p)) (fun p => yc (ix2 r p))
          (fun n k => Wg (ix3 0 ⟨n.val, by omega⟩ k)) (fun n k => Wg (ix3 0 ⟨1024 + n.val, by omega⟩ k)) (fun n k => Wg (ix3 0 ⟨2048 + n.val, by omega⟩ k))
          (fun p n => Wb (ix4 0 0 p n)) (fun p n => Wb (ix4 0 1 p n)) (fun p n => Wb (ix4 0 2 p n)) (fun n k => Wo (ix3 0 n k)) j := by
  frame_out
  pointwise [k0_pay1, k0_pay2, k0_pay14, k0_pay15, k0_pay16, k0_pay17]
  simp only [Cert.Sigmoid.tanh_form]
  unfold rowMerge kernelYa
  dsimp only
open Cert.MergeRefIdeal.Read in
/-- The reference's entry. -/
theorem reference_entry (X : FVec Ideal Cert.MergeRefIdeal.S16384x1024 .f32) (G : FVec Ideal Cert.MergeRefIdeal.S2x1024 .f32)
    (o1 o2 o3 : FVec Ideal Cert.MergeRefIdeal.S16384x512 .bf16) (l1 l2 l3 : FVec Ideal Cert.MergeRefIdeal.S16384x128 .f32)
    (yb yc : FVec Ideal Cert.MergeRefIdeal.S16384x512 .bf16) (Wi : FVec Ideal Cert.MergeRefIdeal.S2x1024x10000 .f32)
    (Wb : FVec Ideal Cert.MergeRefIdeal.S2x3x512x1024 .f32) (Wo : FVec Ideal Cert.MergeRefIdeal.S2x1024x1024 .f32) (R : Fin 16384) (j : Fin 1024) :
    val_main_v82 (F := Ideal) X G o1 o2 o3 l1 l2 l3 yb yc Wi Wb Wo (ix2 R j)
      = rowMerge (fun k => X (ix2 R k)) (fun k => G (ix2 0 k)) (fun p => val_main_v49 (F := Ideal) o1 o2 o3 l1 l2 l3 (ix2 R p))
          (fun p => yb (ix2 R p)) (fun p => yc (ix2 R p))
          (fun n k => Wi (ix3 0 k ⟨6928 + n.val, by omega⟩)) (fun n k => Wi (ix3 0 k ⟨6928 + (1024 + n.val), by omega⟩)) (fun n k => Wi (ix3 0 k ⟨6928 + (2048 + n.val), by omega⟩))
          (fun p n => Wb (ix4 0 0 p n)) (fun p n => Wb (ix4 0 1 p n)) (fun p n => Wb (ix4 0 2 p n)) (fun n k => Wo (ix3 0 n k)) j := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v50, val_main_v51, val_main_v52, val_main_cst_7, val_main_v53, val_main_v54, val_main_cst_8, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82]
  unfold rowMerge
  simp only [Ideal.logistic]

open Cert.Weights in
/-- The kernel's dilated mixer output: the groups' entries times their weights, where the logarithms of the entry's head are
finite and the expansion matrix spreads the heads over their lanes. -/
theorem kernel_ya (l1 l2 l3 : Vec Ideal S512x128 .f32) (E : Vec Ideal S128x512 .bf16) (o1 o2 o3 : Vec Ideal S512x512 .bf16) (r p : Fin 512)
    (hE : ∀ l : Fin 128, E (ix2 l p) = if l.val % 64 = p.val / 64 then (1 : EReal) else 0) (a b c : ℝ)
    (ha : l1 (ix2 r ⟨p.val / 64, by omega⟩) = (a : EReal)) (hb : l2 (ix2 r ⟨p.val / 64, by omega⟩) = (b : EReal))
    (hc : l3 (ix2 r ⟨p.val / 64, by omega⟩) = (c : EReal)) :
    kernelYa l1 l2 l3 E o1 o2 o3 (ix2 r p)
      = powerWeight a b c a * o1 (ix2 r p) + powerWeight a b c b * o2 (ix2 r p) + powerWeight a b c c * o3 (ix2 r p) := by
  have key : ∀ f : Fin 128 → EReal, ∀ e : ℝ, f ⟨p.val / 64, by omega⟩ = (e : EReal) →
      ∑ x : Fin 128, Scalar.select (IntOp.cmpi .slt (BitVec.ofNat 32 x.val) 64#32)
          (powerWeight (l1 (ix2 r x)) (l2 (ix2 r x)) (l3 (ix2 r x)) (f x))
          (powerWeight (l1 (ix2 r ⟨(x.val + 128 - 64) % 128, by omega⟩)) (l2 (ix2 r ⟨(x.val + 128 - 64) % 128, by omega⟩)) (l3 (ix2 r ⟨(x.val + 128 - 64) % 128, by omega⟩)) (f ⟨(x.val + 128 - 64) % 128, by omega⟩)
            - powerWeight (l1 (ix2 r ⟨(x.val + 128 - 64) % 128, by omega⟩)) (l2 (ix2 r ⟨(x.val + 128 - 64) % 128, by omega⟩)) (l3 (ix2 r ⟨(x.val + 128 - 64) % 128, by omega⟩)) (f ⟨(x.val + 128 - 64) % 128, by omega⟩))
          * E (ix2 x p) = powerWeight a b c e := fun f e he => by
    refine (expand_sum _ _ _ (p.val / 64) (by omega) hE ?_).trans ?_
    · have hi : (⟨(64 + p.val / 64 + 128 - 64) % 128, by omega⟩ : Fin 128) = ⟨p.val / 64, by omega⟩ := Fin.ext (by dsimp only; omega)
      dsimp only
      rw [hi, ha, hb, hc, he]
      exact powerWeight_sub_self a b c e
    · rw [ha, hb, hc, he]
  have h1 := key (fun x => l1 (ix2 r x)) a ha
  have h2 := key (fun x => l2 (ix2 r x)) b hb
  have h3 := key (fun x => l3 (ix2 r x)) c hc
  rw [← h1, ← h2, ← h3]
  unfold kernelYa
  pointwise [k0_pay3, k0_pay4, k0_pay5, k0_pay6, k0_pay7, k0_pay8, k0_pay9, k0_pay10, k0_pay11, k0_pay12, k0_pay13]
  simp only [powerWeight]
  rfl

open Cert.MergeRefIdeal.Read Cert.Weights in
/-- The reference's dilated mixer output. -/
theorem reference_ya (l1 l2 l3 : FVec Ideal Cert.MergeRefIdeal.S16384x128 .f32) (o1 o2 o3 : FVec Ideal Cert.MergeRefIdeal.S16384x512 .bf16) (R : Fin 16384) (p : Fin 512) :
    val_main_v49 (F := Ideal) o1 o2 o3 l1 l2 l3 (ix2 R p)
      = softWeight (l1 (ix2 R ⟨p.val / 64, by omega⟩)) (l2 (ix2 R ⟨p.val / 64, by omega⟩)) (l3 (ix2 R ⟨p.val / 64, by omega⟩)) (l1 (ix2 R ⟨p.val / 64, by omega⟩)) * o1 (ix2 R p)
        + softWeight (l1 (ix2 R ⟨p.val / 64, by omega⟩)) (l2 (ix2 R ⟨p.val / 64, by omega⟩)) (l3 (ix2 R ⟨p.val / 64, by omega⟩)) (l2 (ix2 R ⟨p.val / 64, by omega⟩)) * o2 (ix2 R p)
        + softWeight (l1 (ix2 R ⟨p.val / 64, by omega⟩)) (l2 (ix2 R ⟨p.val / 64, by omega⟩)) (l3 (ix2 R ⟨p.val / 64, by omega⟩)) (l3 (ix2 R ⟨p.val / 64, by omega⟩)) * o3 (ix2 R p) := by
  pointwise [val_main_v18, val_main_v19, val_main_v20, val_main_v21, val_main_v22, val_main_v23, val_main_v24, val_main_cst_2, val_main_v25, val_main_v26, val_main_v27, val_main_cst_3, val_main_v28, val_main_cst_4, val_main_v29, val_main_v30, val_main_v31, val_main_v32, val_main_v33, val_main_v34, val_main_cst_5, val_main_v35, val_main_v36, val_main_v37, val_main_v38, val_main_v39, val_main_v40, val_main_v41, val_main_v42, val_main_v43, val_main_v44, val_main_v45, val_main_v46, val_main_v47, val_main_cst_6, val_main_v48, val_main_v49, Fin.sum_univ_three]
  simp only [softWeight, softTop, logTwo]

variable (m : (ℓ : Loc nD τ sig) → Buf (Elt Ideal) ℓ)

/-- The windows' index maps at every grid point. -/
theorem idx : ∀ t : Fin cfg0.N, win0_0.index t = ![t.val, 0] ∧ win0_1.index t = ![0, 0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0, 0]
    ∧ win0_11.index t = ![0, 0, 0, 0] ∧ win0_12.index t = ![0, 0, 0] ∧ win0_13.index t = ![0, 0] ∧ win0_14.index t = ![t.val, 0] ∧ t.val < 32 :=
  (by decide +kernel : ∀ t : Fin grid0.N, _)

end Cert.MergeIdeal.Gated

end
-- ==== Proof.MergePoint.lean ====
/- The blocks of the gated merge, put together. -/
module

public import proofs.«01_k».proof.Proof.Gen.MergeIdeal.Frame
public import proofs.«01_k».proof.Proof.Gen.MergeRefIdeal.Read
public import proofs.«01_k».proof.Proof.Sigmoid
public import proofs.«01_k».proof.Proof.MergeValue
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Gated

open Cert.MergeIdeal Cert.MergeIdeal.Gen

/-- The entry depends on the rows and weights entry by entry. -/
theorem rowMerge_congr {x x' g g' : Fin 1024 → EReal} {ya ya' yb yb' yc yc' : Fin 512 → EReal} {w0 w0' w1 w1' w2 w2' : Fin 1024 → Fin 1024 → EReal}
    {b0 b0' b1 b1' b2 b2' : Fin 512 → Fin 1024 → EReal} {wo wo' : Fin 1024 → Fin 1024 → EReal} (j : Fin 1024)
    (hx : x = x') (hg : g = g') (hya : ya = ya') (hyb : yb = yb') (hyc : yc = yc') (h0 : w0 = w0') (h1 : w1 = w1') (h2 : w2 = w2')
    (k0 : b0 = b0') (k1 : b1 = b1') (k2 : b2 = b2') (ho : wo = wo') :
    rowMerge x g ya yb yc w0 w1 w2 b0 b1 b2 wo j = rowMerge x' g' ya' yb' yc' w0' w1' w2' b0' b1' b2' wo' j := by
  subst hx hg hya hyb hyc h0 h1 h2 k0 k1 k2 ho
  rfl

variable (m : (ℓ : Loc nD τ sig) → Buf (Elt Ideal) ℓ)

/-- A set bit read as a number. -/
theorem bit_one : FloatOps.uitofp (F := Ideal) FTy.bf16 1#1 = (1 : EReal) := by
  show (((1#1 : BitVec 1).toNat : ℝ) : EReal) = 1
  simp

/-- A clear bit read as a number. -/
theorem bit_zero : FloatOps.uitofp (F := Ideal) FTy.bf16 0#1 = (0 : EReal) := by
  show (((0#1 : BitVec 1).toNat : ℝ) : EReal) = 0
  simp

/-- The expansion matrix of the host, as the body reads it. -/
theorem expand_entry (c : Dev nD) (t : Fin cfg0.N) (l : Fin 128) (p : Fin 512) :
    (iblk m c 13 t : Vec Ideal S128x512 .bf16) (ix2 l p) = (if l.val % 64 = p.val / 64 then (1 : EReal) else 0) := by
  have ht : t.val < 32 := (idx t).2.2.2.2.2.2.2.2.2.2.2.2.2.2.2
  have he : (win0_13.blk t).view.emb (ix2 l p) = (ix2 l p : S128x512.Idx) := by
    blk_ext [idx t]
  blk_simp [iblk, V, idx t]
  simp only [he]
  entry_read
  pointwise []
  by_cases h : l.val % 64 = p.val / 64
  · rw [if_pos h, h, IntOp.cmpi_eq_self]
    exact bit_one
  · have hn : IntOp.cmpi CmpIPredicate.eq (BitVec.ofNat 32 (l.val % 64)) (BitVec.ofNat 32 (p.val / 64)) = 0#1 := by
      word_cmp
    rw [if_neg h, hn]
    exact bit_zero

/-- The logarithms of the first eight lanes, one per head, are finite. -/
def Finite (c : Dev nD) : Prop := ∀ (R : Fin 16384) (q : Fin 128), q.val < 8 →
  ∃ x y z : ℝ, (m ((c : Thread nD τ).loc main_arg5) : FVec Ideal S16384x128 .f32) (ix2 R q) = (x : EReal)
    ∧ (m ((c : Thread nD τ).loc main_arg6) : FVec Ideal S16384x128 .f32) (ix2 R q) = (y : EReal)
    ∧ (m ((c : Thread nD τ).loc main_arg7) : FVec Ideal S16384x128 .f32) (ix2 R q) = (z : EReal)

/-- A row of the logarithms' blocks is a row of the arrays. -/
theorem block5 (c : Dev nD) (t : Fin cfg0.N) (r : Fin 512) (q : Fin 128) (h : t.val * 512 + r.val < 16384) :
    (iblk m c 5 t : Vec Ideal S512x128 .f32) (ix2 r q) = (m ((c : Thread nD τ).loc main_arg5) : FVec Ideal S16384x128 .f32) (ix2 ⟨t.val * 512 + r.val, h⟩ q) := by
  have ht : t.val < 32 := (idx t).2.2.2.2.2.2.2.2.2.2.2.2.2.2.2
  blk_point [iblk, V, idx t]

theorem block6 (c : Dev nD) (t : Fin cfg0.N) (r : Fin 512) (q : Fin 128) (h : t.val * 512 + r.val < 16384) :
    (iblk m c 6 t : Vec Ideal S512x128 .f32) (ix2 r q) = (m ((c : Thread nD τ).loc main_arg6) : FVec Ideal S16384x128 .f32) (ix2 ⟨t.val * 512 + r.val, h⟩ q) := by
  have ht : t.val < 32 := (idx t).2.2.2.2.2.2.2.2.2.2.2.2.2.2.2
  blk_point [iblk, V, idx t]

theorem block7 (c : Dev nD) (t : Fin cfg0.N) (r : Fin 512) (q : Fin 128) (h : t.val * 512 + r.val < 16384) :
    (iblk m c 7 t : Vec Ideal S512x128 .f32) (ix2 r q) = (m ((c : Thread nD τ).loc main_arg7) : FVec Ideal S16384x128 .f32) (ix2 ⟨t.val * 512 + r.val, h⟩ q) := by
  have ht : t.val < 32 := (idx t).2.2.2.2.2.2.2.2.2.2.2.2.2.2.2
  blk_point [iblk, V, idx t]

/-- The rows of the dilated mixer output agree. -/
theorem ya_point (c : Dev nD) (hfin : Finite m c) (t : Fin cfg0.N) (r : Fin 512) (p : Fin 512) (h : t.val * 512 + r.val < 16384) :
    kernelYa (iblk m c 5 t) (iblk m c 6 t) (iblk m c 7 t) (iblk m c 13 t) (iblk m c 2 t) (iblk m c 3 t) (iblk m c 4 t) (ix2 r p)
      = Cert.MergeRefIdeal.Read.val_main_v49 (F := Ideal) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (ix2 ⟨t.val * 512 + r.val, h⟩ p) := by
  have ht : t.val < 32 := (idx t).2.2.2.2.2.2.2.2.2.2.2.2.2.2.2
  obtain ⟨x, y, z, hx, hy, hz⟩ := hfin ⟨t.val * 512 + r.val, h⟩ ⟨p.val / 64, by omega⟩ (by dsimp only; omega)
  rw [kernel_ya _ _ _ _ _ _ _ r p (fun l => expand_entry m c t l p) x y z ((block5 m c t r _ h).trans hx) ((block6 m c t r _ h).trans hy) ((block7 m c t r _ h).trans hz)]
  rw [reference_ya, hx, hy, hz]
  rw [Cert.Weights.power_eq_soft, Cert.Weights.power_eq_soft, Cert.Weights.power_eq_soft]
  congr 1
  · congr 1
    · congr 1; blk_point [iblk, V, idx t]
    · congr 1; blk_point [iblk, V, idx t]
  · congr 1; blk_point [iblk, V, idx t]

/-- What the body stores at a block entry is the reference's entry at the block's place. -/
theorem point (c : Dev nD) (hfin : Finite m c) (t : Fin cfg0.N) (y : S512x1024.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
    = Cert.MergeRefIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (((cfg0.win 14).blk t).view.emb y) := by
  idx_vars y
  have ht : t.val < 32 := (idx t).2.2.2.2.2.2.2.2.2.2.2.2.2.2.2
  have he : ((cfg0.win 14).blk t).view.emb (ix2 y0 y1) = (ix2 ⟨t.val * 512 + y0.val, by omega⟩ y1 : S16384x1024.Idx) := by
    blk_ext [idx t]
  rw [he, kernel_entry]
  refine Eq.trans ?_ (reference_entry _ _ _ _ _ _ _ _ _ _ _ _ _ _ _).symm
  apply rowMerge_congr
  · funext k; blk_point [iblk, V, idx t]
  · funext k; blk_point [iblk, V, idx t]
  · funext p; exact ya_point m c hfin t y0 p _
  · funext k; blk_point [iblk, V, idx t]
  · funext k; blk_point [iblk, V, idx t]
  · funext n k; blk_point [iblk, V, idx t]
  · funext n k; blk_point [iblk, V, idx t]
  · funext n k; blk_point [iblk, V, idx t]
  · funext n k; blk_point [iblk, V, idx t]
  · funext n k; blk_point [iblk, V, idx t]
  · funext n k; blk_point [iblk, V, idx t]
  · funext n k; blk_point [iblk, V, idx t]

/-- The result array of the kernel is the reference's. -/
theorem final (c : Dev nD) (hfin : Finite m c) : (dats m 0 c).arrAt 14 (cfgs 0).N
    = Cert.MergeRefIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 14 _ (by decide +kernel) fun t _ y => ?_
  blk_simp
  rw [after0_14]
  exact point m c hfin t y

end Cert.MergeIdeal.Gated

end
-- ==== Proof.MergeClaims.lean ====
/- The claims of the gated merge. -/
module

public import proofs.«01_k».proof.Defs
public import proofs.«01_k».proof.Proof.Gen.Merge.Frame
public import proofs.«01_k».proof.Proof.Gen.MergeRefIdeal.Run
public import proofs.«01_k».proof.Proof.Gen.Pre_finite
public import Idealize.ShloMosaic.Lib.Quiescent
public import proofs.«01_k».proof.Proof.MergeFinite
public import proofs.«01_k».proof.Proof.MergePoint

@[expose] public section

set_option maxRecDepth 16384

noncomputable section

open Idealize.ShloMosaic Idealize.ShloMosaic.TcCoe Idealize.SL.Sem

namespace Cert.Proof

attribute [local instance] Cert.Merge.Gen.facts Cert.MergeIdeal.Gen.facts Cert.MergeRefIdeal.Gen.facts Cert.Pre_finite.Gen.facts

theorem quiescent_Merge : Cert.quiescent_Merge := fun m ρ _ => Cert.Merge.Gen.frame m ρ

theorem quiescent_MergeIdeal : Cert.quiescent_MergeIdeal := fun m ρ _ => Cert.MergeIdeal.Gen.frame m ρ

theorem quiescent_MergeIdeal_pre : Cert.quiescent_MergeIdeal_pre_finite := fun m ρ _ => Cert.MergeIdeal.Gen.frame m ρ

theorem quiescent_MergeRefIdeal : Cert.quiescent_MergeRefIdeal := fun m ρ _ =>
  (θ_run _ _ _).mono (fun r h => ⟨fun c => (h c).2, sem_eq_zero_of_no_sems rfl r.2⟩) (Cert.MergeRefIdeal.Value.run m ρ)

theorem quiescent_MergeRefIdeal_pre : Cert.quiescent_MergeRefIdeal_pre_finite := fun m ρ _ => quiescent_MergeRefIdeal m ρ trivial

/-- The precondition makes the heads' logarithms finite. -/
theorem finite_of_pre (m : (ℓ : Loc Cert.MergeIdeal.nD Cert.MergeIdeal.τ Cert.MergeIdeal.sig) → Buf (Elt Ideal) ℓ) (h : Cert.Pre_MergeIdeal_finite m) (c : Dev Cert.MergeIdeal.nD) :
    Cert.MergeIdeal.Gated.Finite m c := fun R q hq =>
  Cert.MergeIdeal.Gated.lanes _ _ _ _ _ _ _ _ _ _ _ _ _ R ⟨q.val, hq⟩ (congrFun (h c) (ix2 R ⟨q.val, hq⟩))

set_option maxHeartbeats 4000000 in
theorem algebraic_Merge : Cert.algebraic_MergeIdeal_MergeRefIdeal_pre_finite := by
  pair_intro
  · run_from Cert.MergeIdeal.Gen.run_main m g
  · run_from Cert.MergeRefIdeal.Value.run m' g'
    obtain ⟨h0, h1, h2, h3, h4, h5, h6, h7, h8, h9, h10, h11, h12⟩ := hagree c
    rw [Cert.MergeRefIdeal.Read.val_main_v82_eq, h0, h1, h2, h3, h4, h5, h6, h7, h8, h9, h10, h11, h12]
    exact (Cert.MergeIdeal.Gated.final m c (finite_of_pre m hpre c)).symm

end Cert.Proof

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Pre_finite
public import proofs.«01_k».proof.Proof.FfnClaims
public import proofs.«01_k».proof.Proof.AttnClaims
public import proofs.«01_k».proof.Proof.MergeClaims
public import Idealize.ShloMosaic.Adequacy
public import Idealize.ShloMosaic.Init

@[expose] public section

noncomputable section

namespace Cert.Proof

open Idealize.ShloMosaic Idealize.SL.Sem Cert.Ffn

theorem claim : Cert.Claim := ⟨Cert.Ffn.Gen.facts, Cert.FfnIdeal.Gen.facts, Cert.FfnRefIdeal.Gen.facts,
  Cert.Attn.Gen.facts, Cert.AttnIdeal.Gen.facts, Cert.AttnRefIdeal.Gen.facts,
  Cert.Merge.Gen.facts, Cert.MergeIdeal.Gen.facts, Cert.MergeRefIdeal.Gen.facts, Cert.Pre_finite.Gen.facts,
  quiescent_Ffn, quiescent_FfnIdeal, quiescent_FfnRefIdeal, quiescent_Attn, quiescent_AttnIdeal, quiescent_AttnRefIdeal,
  quiescent_Merge, quiescent_MergeIdeal, quiescent_MergeIdeal_pre, quiescent_MergeRefIdeal, quiescent_MergeRefIdeal_pre,
  trivial, algebraic_Ffn, preserves_Attn, trivial, algebraic_Merge⟩

end Cert.Proof

end
